-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x4096x1024 : Shape := ⟨3, ![4, 4096, 1024]⟩
abbrev S119x128 : Shape := ⟨2, ![119, 128]⟩
abbrev S1024x512 : Shape := ⟨2, ![1024, 512]⟩
abbrev S512 : Shape := ⟨1, ![512]⟩
abbrev S512x119 : Shape := ⟨2, ![512, 119]⟩
abbrev S119 : Shape := ⟨1, ![119]⟩
abbrev S4x1x1024 : Shape := ⟨3, ![4, 1, 1024]⟩
abbrev S4x1024 : Shape := ⟨2, ![4, 1024]⟩
abbrev S_ : Shape := ⟨0, ![]⟩

class Facts : Prop where
  slices_S4x4096x1024_S4x1x1024_0_4095_0 : S4x4096x1024.Slices ![0, 4095, 0] S4x1x1024
  shapeCasts_S4x1x1024_S4x1024 : S4x1x1024.ShapeCasts S4x1024
  bcast_S_S4x1024 : S_.BroadcastsInDim S4x1024 (![] : Fin 0 → Fin S4x1024.rank)
  reducesTo_S4x1024_S_d0_1 : S4x1024.ReducesTo [0, 1] S_
  h_S_ : 0 < S_.numel
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_
  bcast_S_S512x119 : S_.BroadcastsInDim S512x119 (![] : Fin 0 → Fin S512x119.rank)
  reducesTo_S512x119_S_d0_1 : S512x119.ReducesTo [0, 1] S_
  bcast_S_S119 : S_.BroadcastsInDim S119 (![] : Fin 0 → Fin S119.rank)
  reducesTo_S119_S_d0 : S119.ReducesTo [0] S_

variable [Facts]

def fn_part1 {F : FTy → Type} [FloatOps F] (main_arg5 : FVec F S119 .f32) (main_v15 : IVec S_ 1) (main_v16 : FVec F S512x119 .f32) (main_cst_4 : FVec F S_ .f32) : IVec S_ 1 :=
  let main_v17 : FVec F S512x119 .f32 := broadcastInDim S512x119 ![] bcast_S_S512x119 main_cst_4
  let main_v18 : IVec S512x119 1 := cmpf .olt main_v16 main_v17
  let main_c_5 : IVec S_ 1 := constantI S_ 1 1#1
  let main_v19 : IVec S_ 1 := (fun x v => Host.reduce IntOp.andi x v reducesTo_S512x119_S_d0_1 h_S_) main_v18 main_c_5
  let main_v20 : IVec S_ 1 := andi main_v15 main_v19
  let main_v21 : FVec F S119 .f32 := Host.absf main_arg5
  let main_cst_6 : FVec F S_ .f32 := constant S_ .f32 0x7F800000#32
  let main_v22 : FVec F S119 .f32 := broadcastInDim S119 ![] bcast_S_S119 main_cst_6
  let main_v23 : IVec S119 1 := cmpf .olt main_v21 main_v22
  let main_c_7 : IVec S_ 1 := constantI S_ 1 1#1
  let main_v24 : IVec S_ 1 := (fun x v => Host.reduce IntOp.andi x v reducesTo_S119_S_d0 h_S_) main_v23 main_c_7
  let main_v25 : IVec S_ 1 := andi main_v20 main_v24
  main_v25

def fn {F : FTy → Type} [FloatOps F] (main_arg0 : FVec F S4x4096x1024 .f32) (main_arg1 : FVec F S119x128 .f32) (main_arg2 : FVec F S1024x512 .f32) (main_arg3 : FVec F S512 .f32) (main_arg4 : FVec F S512x119 .f32) (main_arg5 : FVec F S119 .f32) : IVec S_ 1 :=
  let main_v0 : FVec F S4x1x1024 .f32 := (extractStridedSlice S4x1x1024 ![0, 4095, 0] · slices_S4x4096x1024_S4x1x1024_0_4095_0) main_arg0
  let main_v1 : FVec F S4x1024 .f32 := shapeCast S4x1024 main_v0 shapeCasts_S4x1x1024_S4x1024
  let main_v2 : FVec F S4x1024 .f32 := Host.absf main_v1
  let main_cst : FVec F S_ .f32 := constant S_ .f32 0x7F800000#32
  let main_v3 : FVec F S4x1024 .f32 := broadcastInDim S4x1024 ![] bcast_S_S4x1024 main_cst
  let main_v4 : IVec S4x1024 1 := cmpf .olt main_v2 main_v3
  let main_c : IVec S_ 1 := constantI S_ 1 1#1
  let main_v5 : IVec S_ 1 := (fun x v => Host.reduce IntOp.andi x v reducesTo_S4x1024_S_d0_1 h_S_) main_v4 main_c
  let main_v6 : FVec F S1024x512 .f32 := Host.absf main_arg2
  let main_cst_0 : FVec F S_ .f32 := constant S_ .f32 0x7F800000#32
  let main_v7 : FVec F S1024x512 .f32 := broadcastInDim S1024x512 ![] bcast_S_S1024x512 main_cst_0
  let main_v8 : IVec S1024x512 1 := cmpf .olt main_v6 main_v7
  let main_c_1 : IVec S_ 1 := constantI S_ 1 1#1
  let main_v9 : IVec S_ 1 := (fun x v => Host.reduce IntOp.andi x v reducesTo_S1024x512_S_d0_1 h_S_) main_v8 main_c_1
  let main_v10 : IVec S_ 1 := andi main_v5 main_v9
  let main_v11 : FVec F S512 .f32 := Host.absf main_arg3
  let main_cst_2 : FVec F S_ .f32 := constant S_ .f32 0x7F800000#32
  let main_v12 : FVec F S512 .f32 := broadcastInDim S512 ![] bcast_S_S512 main_cst_2
  let main_v13 : IVec S512 1 := cmpf .olt main_v11 main_v12
  let main_c_3 : IVec S_ 1 := constantI S_ 1 1#1
  let main_v14 : IVec S_ 1 := (fun x v => Host.reduce IntOp.andi x v reducesTo_S512_S_d0 h_S_) main_v13 main_c_3
  let main_v15 : IVec S_ 1 := andi main_v10 main_v14
  let main_v16 : FVec F S512x119 .f32 := Host.absf main_arg4
  let main_cst_4 : FVec F S_ .f32 := constant S_ .f32 0x7F800000#32
  fn_part1 (F := F) main_arg5 main_v15 main_v16 main_cst_4
-- ==== Kernel.lean ====
abbrev S4x4096x1024 : Shape := ⟨3, ![4, 4096, 1024]⟩
abbrev S119x128 : Shape := ⟨2, ![119, 128]⟩
abbrev S1024x512 : Shape := ⟨2, ![1024, 512]⟩
abbrev S512 : Shape := ⟨1, ![512]⟩
abbrev S512x119 : Shape := ⟨2, ![512, 119]⟩
abbrev S119 : Shape := ⟨1, ![119]⟩
abbrev S1x512 : Shape := ⟨2, ![1, 512]⟩
abbrev S1x119 : Shape := ⟨2, ![1, 119]⟩
abbrev S4x4096x128 : Shape := ⟨3, ![4, 4096, 128]⟩
abbrev S4x8x1024 : Shape := ⟨3, ![4, 8, 1024]⟩
abbrev S256x512 : Shape := ⟨2, ![256, 512]⟩
abbrev S4x256x128 : Shape := ⟨3, ![4, 256, 128]⟩
abbrev S_ : Shape := ⟨0, ![]⟩
abbrev S4x1x1024 : Shape := ⟨3, ![4, 1, 1024]⟩
abbrev S4x1024 : Shape := ⟨2, ![4, 1024]⟩
abbrev S4x256 : Shape := ⟨2, ![4, 256]⟩
abbrev S4x512 : Shape := ⟨2, ![4, 512]⟩
abbrev S4x119 : Shape := ⟨2, ![4, 119]⟩
abbrev S4 : Shape := ⟨1, ![4]⟩
abbrev S4x1 : Shape := ⟨2, ![4, 1]⟩
abbrev S4x128 : Shape := ⟨2, ![4, 128]⟩
abbrev S4x1x128 : Shape := ⟨3, ![4, 1, 128]⟩

abbrev nBuf : Space → Nat
  | .hbm => 9
  | .vmem => 10
  | .smem => 0
  | _ => 0

abbrev bufTy : (tb : Table) → Fin (tcTables nBuf tb) → BufTy
  | .hbm, ⟨0, _⟩ => ⟨S4x4096x1024, .f32⟩
  | .hbm, ⟨1, _⟩ => ⟨S119x128, .f32⟩
  | .hbm, ⟨2, _⟩ => ⟨S1024x512, .f32⟩
  | .hbm, ⟨3, _⟩ => ⟨S512, .f32⟩
  | .hbm, ⟨4, _⟩ => ⟨S512x119, .f32⟩
  | .hbm, ⟨5, _⟩ => ⟨S119, .f32⟩
  | .hbm, ⟨6, _⟩ => ⟨S1x512, .f32⟩
  | .hbm, ⟨7, _⟩ => ⟨S1x119, .f32⟩
  | .hbm, ⟨8, _⟩ => ⟨S4x4096x128, .f32⟩
  | .local _ .vmem, ⟨0, _⟩ => ⟨S4x8x1024, .f32⟩
  | .local _ .vmem, ⟨1, _⟩ => ⟨S119x128, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S1x512, .f32⟩
  | .local _ .vmem, ⟨7, _⟩ => ⟨S512x119, .f32⟩
  | .local _ .vmem, ⟨8, _⟩ => ⟨S1x119, .f32⟩
  | .local _ .vmem, ⟨9, _⟩ => ⟨S4x256x128, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c511_i32 : BitVec 32 := 511#32
  let c0_i32_0 : BitVec 32 := 0#32
  let c0_i32_1 : BitVec 32 := 0#32
  ![c0_i32.toNat, c511_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_4 (i : grid0.Coords) : Fin 2 → Nat :=
  let arg0 : BitVec 32 := BitVec.ofNat 32 (i 0).val
  let c2_i32 : BitVec 32 := 2#32
  let c0_i32 : BitVec 32 := 0#32
  let c0_i32_0 : BitVec 32 := 0#32
  ![c2_i32.toNat, c0_i32.toNat]

def cc0_transform_5 (i : grid0.Coords) : Fin 2 → Nat :=
  let arg0 : BitVec 32 := BitVec.ofNat 32 (i 0).val
  let c3_i32 : BitVec 32 := 3#32
  let c0_i32 : BitVec 32 := 0#32
  let c0_i32_0 : BitVec 32 := 0#32
  ![c3_i32.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4x8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S119x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x119 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x119 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S4x4096x1024 : Shape := ⟨3, ![4, 4096, 1024]⟩
abbrev S119x128 : Shape := ⟨2, ![119, 128]⟩
abbrev S1024x512 : Shape := ⟨2, ![1024, 512]⟩
abbrev S512 : Shape := ⟨1, ![512]⟩
abbrev S512x119 : Shape := ⟨2, ![512, 119]⟩
abbrev S119 : Shape := ⟨1, ![119]⟩
abbrev S4x1x1024 : Shape := ⟨3, ![4, 1, 1024]⟩
abbrev S4x1024 : Shape := ⟨2, ![4, 1024]⟩
abbrev S4x512 : Shape := ⟨2, ![4, 512]⟩
abbrev S1x512 : Shape := ⟨2, ![1, 512]⟩
abbrev S_ : Shape := ⟨0, ![]⟩
abbrev S4x119 : Shape := ⟨2, ![4, 119]⟩
abbrev S1x119 : Shape := ⟨2, ![1, 119]⟩
abbrev S4 : Shape := ⟨1, ![4]⟩
abbrev S4x1 : Shape := ⟨2, ![4, 1]⟩
abbrev S1 : Shape := ⟨1, ![1]⟩
abbrev S1x1 : Shape := ⟨2, ![1, 1]⟩
abbrev S4x128 : Shape := ⟨2, ![4, 128]⟩
abbrev S4x1x128 : Shape := ⟨3, ![4, 1, 128]⟩
abbrev S4x4096x128 : Shape := ⟨3, ![4, 4096, 128]⟩

abbrev nBuf : Space → Nat
  | .hbm => 69
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S119x128, .f32⟩
  | .hbm, ⟨2, _⟩ => ⟨S1024x512, .f32⟩
  | .hbm, ⟨3, _⟩ => ⟨S512, .f32⟩
  | .hbm, ⟨4, _⟩ => ⟨S512x119, .f32⟩
  | .hbm, ⟨5, _⟩ => ⟨S119, .f32⟩
  | .hbm, ⟨6, _⟩ => ⟨S4x1x1024, .f32⟩
  | .hbm, ⟨7, _⟩ => ⟨S4x1024, .f32⟩
  | .hbm, ⟨8, _⟩ => ⟨S4x512, .f32⟩
  | .hbm, ⟨9, _⟩ => ⟨S1x512, .f32⟩
  | .hbm, ⟨10, _⟩ => ⟨S4x512, .f32⟩
  | .hbm, ⟨11, _⟩ => ⟨S4x512, .f32⟩
  | .hbm, ⟨12, _⟩ => ⟨S_, .f32⟩
  | .hbm, ⟨13, _⟩ => ⟨S4x512, .f32⟩
  | .hbm, ⟨14, _⟩ => ⟨S4x512, .f32⟩
  | .hbm, ⟨15, _⟩ => ⟨S4x512, .f32⟩
  | .hbm, ⟨16, _⟩ => ⟨S_, .f32⟩
  | .hbm, ⟨17, _⟩ => ⟨S4x512, .f32⟩
  | .hbm, ⟨18, _⟩ => ⟨S4x512, .f32⟩
  | .hbm, ⟨19, _⟩ => ⟨S4x512, .f32⟩
  | .hbm, ⟨20, _⟩ => ⟨S4x512, .f32⟩
  | .hbm, ⟨21, _⟩ => ⟨S4x119, .f32⟩
  | .hbm, ⟨22, _⟩ => ⟨S1x119, .f32⟩
  | .hbm, ⟨23, _⟩ => ⟨S4x119, .f32⟩
  | .hbm, ⟨24, _⟩ => ⟨S4x119, .f32⟩
  | .hbm, ⟨25, _⟩ => ⟨S_, .f32⟩
  | .hbm, ⟨26, _⟩ => ⟨S4, .f32⟩
  | .hbm, ⟨27, _⟩ => ⟨S_, .f32⟩
  | .hbm, ⟨28, _⟩ => ⟨S4, .f32⟩
  | .hbm, ⟨29, _⟩ => ⟨S4, .f32⟩
  | .hbm, ⟨30, _⟩ => ⟨S4x1, .f32⟩
  | .hbm, ⟨31, _⟩ => ⟨S4x119, .f32⟩
  | .hbm, ⟨32, _⟩ => ⟨S4x119, .f32⟩
  | .hbm, ⟨33, _⟩ => ⟨S4x119, .f32⟩
  | .hbm, ⟨34, _⟩ => ⟨S_, .f32⟩
  | .hbm, ⟨35, _⟩ => ⟨S4, .f32⟩
  | .hbm, ⟨36, _⟩ => ⟨S4x1, .f32⟩
  | .hbm, ⟨37, _⟩ => ⟨S4x119, .f32⟩
  | .hbm, ⟨38, _⟩ => ⟨S4x119, .f32⟩
  | .hbm, ⟨39, _⟩ => ⟨S4x119, .i32⟩
  | .hbm, ⟨40, _⟩ => ⟨S_, .f32⟩
  | .hbm, ⟨41, _⟩ => ⟨S_, .i32⟩
  | .hbm, ⟨42, _⟩ => ⟨S4, .f32⟩
  | .hbm, ⟨43, _⟩ => ⟨S4, .i32⟩
  | .hbm, ⟨44, _⟩ => ⟨S_, .i32⟩
  | .hbm, ⟨45, _⟩ => ⟨S4, .i32⟩
  | .hbm, ⟨46, _⟩ => ⟨S4, .i1⟩
  | .hbm, ⟨47, _⟩ => ⟨S_, .i32⟩
  | .hbm, ⟨48, _⟩ => ⟨S4, .i32⟩
  | .hbm, ⟨49, _⟩ => ⟨S4, .i32⟩
  | .hbm, ⟨50, _⟩ => ⟨S4, .i32⟩
  | .hbm, ⟨51, _⟩ => ⟨S4x1, .i32⟩
  | .hbm, ⟨52, _⟩ => ⟨S1, .i32⟩
  | .hbm, ⟨53, _⟩ => ⟨S_, .i32⟩
  | .hbm, ⟨54, _⟩ => ⟨S4x1, .i32⟩
  | .hbm, ⟨55, _⟩ => ⟨S4x1, .i1⟩
  | .hbm, ⟨56, _⟩ => ⟨S1x1, .i32⟩
  | .hbm, ⟨57, _⟩ => ⟨S4x1, .i32⟩
  | .hbm, ⟨58, _⟩ => ⟨S4x1, .i1⟩
  | .hbm, ⟨59, _⟩ => ⟨S4x1, .i1⟩
  | .hbm, ⟨60, _⟩ => ⟨S_, .i1⟩
  | .hbm, ⟨61, _⟩ => ⟨S4, .i1⟩
  | .hbm, ⟨62, _⟩ => ⟨S4x128, .f32⟩
  | .hbm, ⟨63, _⟩ => ⟨S4x128, .i1⟩
  | .hbm, ⟨64, _⟩ => ⟨S_, .f32⟩
  | .hbm, ⟨65, _⟩ => ⟨S4x128, .f32⟩
  | .hbm, ⟨66, _⟩ => ⟨S4x128, .f32⟩
  | .hbm, ⟨67, _⟩ => ⟨S4x1x128, .f32⟩
  | .hbm, ⟨68, _⟩ => ⟨S4x4096x128, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_call0_v0 : Ref sig .tc := ⟨.hbm, 39, rfl⟩
abbrev main_call0_cst : Ref sig .tc := ⟨.hbm, 40, rfl⟩
abbrev main_call0_c : Ref sig .tc := ⟨.hbm, 41, rfl⟩
abbrev main_call0_v1_0 : Ref sig .tc := ⟨.hbm, 42, rfl⟩
abbrev main_v28 : Ref sig .tc := ⟨.hbm, 43, rfl⟩
abbrev main_call1_c : Ref sig .tc := ⟨.hbm, 44, rfl⟩
abbrev main_call1_v0 : Ref sig .tc := ⟨.hbm, 45, rfl⟩
abbrev main_call1_v1 : Ref sig .tc := ⟨.hbm, 46, rfl⟩
abbrev main_call1_c_0 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_v5 : Ref sig .tc := ⟨.hbm, 51, rfl⟩
abbrev main_call1_c_1 : Ref sig .tc := ⟨.hbm, 52, rfl⟩
abbrev main_call1_c_2 : Ref sig .tc := ⟨.hbm, 53, rfl⟩
abbrev main_call1_v6 : Ref sig .tc := ⟨.hbm, 54, rfl⟩
abbrev main_call1_v7 : Ref sig .tc := ⟨.hbm, 55, rfl⟩
abbrev main_call1_v8 : Ref sig .tc := ⟨.hbm, 56, rfl⟩
abbrev main_call1_v9 : Ref sig .tc := ⟨.hbm, 57, rfl⟩
abbrev main_call1_v10 : Ref sig .tc := ⟨.hbm, 58, rfl⟩
abbrev main_call1_v11 : Ref sig .tc := ⟨.hbm, 59, rfl⟩
abbrev main_call1_c_3 : Ref sig .tc := ⟨.hbm, 60, rfl⟩
abbrev main_call1_v12 : Ref sig .tc := ⟨.hbm, 61, rfl⟩
abbrev main_call1_v13 : Ref sig .tc := ⟨.hbm, 62, rfl⟩
abbrev main_call1_v14 : Ref sig .tc := ⟨.hbm, 63, rfl⟩
abbrev main_call1_cst : Ref sig .tc := ⟨.hbm, 64, rfl⟩
abbrev main_call1_v15 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩

abbrev nD : Nat := 1
abbrev τ : Topo := Topo.v7x

variable {F : FTy → Type} [FloatOps F]
-- ==== Proof.KernelIdealRun.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Pipeline.FrameValue
public import Idealize.ShloMosaic.Lib.Batch
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The whole buffer a reference names, held outright at the contents `f`. -/
def heldWhole (c : Dev nD) (b : Ref sig .tc) (f : Buf (Elt F) ((Memref.whole b).view.loc (c : Thread nD τ))) : sProp 𝕄 :=
  (Memref.whole b).view.loc (c : Thread nD τ) ↦{fullShare} f

/-- A place of the result, in its slab of 256 rows: the row counted within the slab. -/
def inSlab (j : S4x4096x128.Idx) : S4x256x128.Idx := fun a => match a with
  | ⟨0, _⟩ => j 0
  | ⟨1, _⟩ => ⟨(j 1).val % 256, Nat.mod_lt _ (by decide)⟩
  | ⟨2, _⟩ => j 2

/-- The result holding one tile in each of its sixteen slabs of 256 rows. -/
def spread (P : S4x256x128.Idx → Elt F .f32) : S4x4096x128.Idx → Elt F .f32 := fun j => P (inSlab j)

/-- The slab starting at a multiple of 256 places the tile's index where `inSlab` reads it back. -/
theorem inSlab_emb (o : ℕ) (ho : o % 256 = 0) (inb) (x : (Rect.unit (s := S4x4096x128) ![0, o, 0] S4x256x128.size inb).shape.Idx) :
    inSlab ((Rect.unit (s := S4x4096x128) ![0, o, 0] S4x256x128.size inb).emb x) = x := by
  funext a
  apply Fin.ext
  match a with
  | ⟨0, _⟩ => show 0 + 1 * (x ⟨0, _⟩).val = _; omega
  | ⟨1, _⟩ =>
    have h : (x (1 : Fin 3)).val < 256 := (x (1 : Fin 3)).isLt
    show (o + 1 * (x (1 : Fin 3)).val) % 256 = (x (1 : Fin 3)).val
    omega
  | ⟨2, _⟩ => show 0 + 1 * (x ⟨2, _⟩).val = _; omega

/-- A slab's piece, the tile, agrees with `spread` of the tile. -/
theorem slab_agrees (P : S4x256x128.Idx → Elt F .f32) (o : ℕ) (ho : o % 256 = 0) (inb) :
    let p : View.Piece (Elt F) S4x4096x128 .f32 := ⟨Rect.unit (s := S4x4096x128) ![0, o, 0] S4x256x128.size inb, P⟩
    ∀ x : p.1.shape.Idx, p.2 x = spread P (p.1.emb x) :=
  fun x => (congrArg P (inSlab_emb o ho inb x)).symm

/-- What the launch point computes from its nine blocks: the tile of embedding rows. -/
def tile (d1 : Vec F S4x8x1024 .f32) (d2 : Vec F S119x128 .f32) (d3 d4 d5 d6 : Vec F S256x512 .f32)
    (d7 : Vec F S1x512 .f32) (d8 : Vec F S512x119 .f32) (d9 : Vec F S1x119 .f32) : FVec F S4x256x128 .f32 :=
  k0_pay3 (k0_pay1 (fun x => d1 ((Rect.unit (s := S4x8x1024) ![0, 7, 0] S4x1x1024.size inb_S4x8x1024_S4x1x1024_0_7_0).toLoadRect.idx x))
    d3 d4 d5 d6 d7 d8) (k0_pay2 d9) d2

/-- The scratch tile after a store of all of it reads the payload. -/
theorem scratch_read (c : Dev nD) (ft : Buf (Elt F) ((Memref.whole cc0_scratch0).view.loc (c : Thread nD τ))) (inb)
    (w : S4x256x128.Idx → Elt F .f32) :
    ReadAs.same.apply ((Memref.whole cc0_scratch0).view.read (Elt F) ((Memref.whole cc0_scratch0).view.writes (Elt F) ft
      [⟨Rect.unit ![0, 0, 0] S4x256x128.size inb, w⟩])) = w :=
  View.read_writes_full (Memref.whole cc0_scratch0).view ft inb w []

/-- Pieces that cover the result and each agree with `G` write `G`, whatever the result held before. -/
theorem writes_eq_of_pieces (c : Dev nD) (fo : Buf (Elt F) ((Memref.whole main_v2).view.loc (c : Thread nD τ)))
    (G : S4x4096x128.Idx → Elt F .f32) (L : List (View.Piece (Elt F) S4x4096x128 .f32))
    (hG : ∀ p ∈ L, ∀ x : p.1.shape.Idx, p.2 x = G (p.1.emb x)) (hc : ∀ y, ∃ p ∈ L, y ∈ p.1.set) :
    (Memref.whole main_v2).view.writes (Elt F) fo L = G :=
  funext fun y => View.read_writes_apply_of_pieces (Memref.whole main_v2).view fo G L hG y (hc y)

/-- THE BODY. On nine blocks held at any share, the result and the scratch tile held outright at anything and the semaphore
    at zero, the body gives all of them back, the result holding `tile` of the blocks in each of its slabs. -/
theorem kernelRun (c : Dev nD) (i : grid0.Coords)
    (arg1 : Memref sig .tc .vmem S4x8x1024 .f32) (harg1 : arg1.IsWhole)
    (arg2 : Memref sig .tc .vmem S119x128 .f32) (harg2 : arg2.IsWhole)
    (arg3 : Memref sig .tc .vmem S256x512 .f32) (harg3 : arg3.IsWhole)
    (arg4 : Memref sig .tc .vmem S256x512 .f32) (harg4 : arg4.IsWhole)
    (arg5 : Memref sig .tc .vmem S256x512 .f32) (harg5 : arg5.IsWhole)
    (arg6 : Memref sig .tc .vmem S256x512 .f32) (harg6 : arg6.IsWhole)
    (arg7 : Memref sig .tc .vmem S1x512 .f32) (harg7 : arg7.IsWhole)
    (arg8 : Memref sig .tc .vmem S512x119 .f32) (harg8 : arg8.IsWhole)
    (arg9 : Memref sig .tc .vmem S1x119 .f32) (harg9 : arg9.IsWhole)
    (q1 q2 q3 q4 q5 q6 q7 q8 q9 : PosShare TreeShare)
    (d1 : Vec F S4x8x1024 .f32) (d2 : Vec F S119x128 .f32) (d3 d4 d5 d6 : Vec F S256x512 .f32)
    (d7 : Vec F S1x512 .f32) (d8 : Vec F S512x119 .f32) (d9 : Vec F S1x119 .f32)
    (fo : Buf (Elt F) ((Memref.whole main_v2).view.loc (c : Thread nD τ)))
    (ft : Buf (Elt F) ((Memref.whole cc0_scratch0).view.loc (c : Thread nD τ)))
    (W : Waits sig Unit) (K : PUnit → sProp 𝕄)
    (plan : Transfers.BatchOf (c : Thread nD τ) (SemLoc.dma (sig := sig) 9) 16 (windows := true)) :
    iprop(owns (c : Thread nD τ) arg1 q1 d1 ∗ owns (c : Thread nD τ) arg2 q2 d2 ∗ owns (c : Thread nD τ) arg3 q3 d3
        ∗ owns (c : Thread nD τ) arg4 q4 d4 ∗ owns (c : Thread nD τ) arg5 q5 d5 ∗ owns (c : Thread nD τ) arg6 q6 d6
        ∗ owns (c : Thread nD τ) arg7 q7 d7 ∗ owns (c : Thread nD τ) arg8 q8 d8 ∗ owns (c : Thread nD τ) arg9 q9 d9
        ∗ heldWhole c main_v2 fo
        ∗ heldWhole c cc0_scratch0 ft
        ∗ semVal ((c : Thread nD τ), SemLoc.dma 9) 0
        ∗ owes (c : Thread nD τ) 0 W
        ∗ (iprop(owns (c : Thread nD τ) arg1 q1 d1 ∗ owns (c : Thread nD τ) arg2 q2 d2 ∗ owns (c : Thread nD τ) arg3 q3 d3
            ∗ owns (c : Thread nD τ) arg4 q4 d4 ∗ owns (c : Thread nD τ) arg5 q5 d5 ∗ owns (c : Thread nD τ) arg6 q6 d6
            ∗ owns (c : Thread nD τ) arg7 q7 d7 ∗ owns (c : Thread nD τ) arg8 q8 d8 ∗ owns (c : Thread nD τ) arg9 q9 d9
            ∗ (∃ g, ⌜g = spread (tile d1 d2 d3 d4 d5 d6 d7 d8 d9)⌝ ∗ heldWhole c main_v2 g)
            ∗ (∃ f, heldWhole c cc0_scratch0 f)
            ∗ semVal ((c : Thread nD τ), SemLoc.dma 9) 0
            ∗ (∃ W', owes (c : Thread nD τ) 0 W')) -∗ K ⟨⟩))
      ⊢ wp frame (wpE (defs₀ (F := F)) Variants.none c none) Set.univ
          (cc0__mlp_embed_broadcast i arg1 harg1 arg2 harg2 arg3 harg3 arg4 harg4 arg5 harg5 arg6 harg6
            arg7 harg7 arg8 harg8 arg9 harg9 (Memref.whole main_v2) (Memref.isWhole_whole _) (Memref.whole cc0_scratch0) (Memref.isWhole_whole _) cc0_scratch1) K := by
  simp only [cc0__mlp_embed_broadcast_eq_skeleton]; unfold cc0__mlp_embed_broadcast_skel
  simp only [k0_part1_eq_skeleton, k0_part2_eq_skeleton, k0_part3_eq_skeleton, k0_part4_eq_skeleton]
  unfold k0_part1_skel k0_part2_skel k0_part3_skel k0_part4_skel
  unfold owns heldWhole
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩,
    ⟨%f8, %e8, H8⟩, ⟨%f9, %e9, H9⟩, Ho, Ht, Hq, HW, Hk⟩
  set_option sl_exec.dmaWindow true in set_option sl_exec.dmaWindowLent true in sl_exec
  sl_step
  iapply Hk
  isplitl [H1]; · iexists f1; isplitr; (· ipureintro; exact e1); iexact H1
  isplitl [H2]; · iexists f2; isplitr; (· ipureintro; exact e2); iexact H2
  isplitl [H3]; · iexists f3; isplitr; (· ipureintro; exact e3); iexact H3
  isplitl [H4]; · iexists f4; isplitr; (· ipureintro; exact e4); iexact H4
  isplitl [H5]; · iexists f5; isplitr; (· ipureintro; exact e5); iexact H5
  isplitl [H6]; · iexists f6; isplitr; (· ipureintro; exact e6); iexact H6
  isplitl [H7]; · iexists f7; isplitr; (· ipureintro; exact e7); iexact H7
  isplitl [H8]; · iexists f8; isplitr; (· ipureintro; exact e8); iexact H8
  isplitl [H9]; · iexists f9; isplitr; (· ipureintro; exact e9); iexact H9
  isplitl [Ho]
  · iexists _; isplitr
    swap; · iexact Ho
    ipureintro
    have hpay : kernelRun.sl.dma11 c arg1 arg2 arg3 arg4 arg5 arg6 arg7 arg8 arg9 ft f1 f2 f3 f4 f5 f6 f7 f8 f9
        = tile d1 d2 d3 d4 d5 d6 d7 d8 d9 := by
      unfold kernelRun.sl.dma11 kernelRun.sl.Ht_1
      subst e1 e2 e3 e4 e5 e6 e7 e8 e9
      repeat rw [View.readAt_full]
      refine (scratch_read c ft _ _).trans ?_
      rfl
    rw [hpay]
    refine writes_eq_of_pieces c fo _ _ ?_ (View.cover_of_tiledL (s := S4x4096x128) _ S4x256x128.size (by sl_kernel_rfl))
    repeat' first
      | exact List.forall_mem_nil _
      | refine List.forall_mem_cons.mpr ⟨slab_agrees _ _ (by decide) _, ?_⟩
  isplitl [Ht]; · iexists _; iexact Ht
  isplitl [Hq]; · iexact Hq
  iexists _; iexact HW

end Cert.KernelIdeal.Run

end
-- ==== Proof.KernelIdealFrame.lean ====
module

public import proofs.«01_k».proof.Proof.KernelIdealRun

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The launch's own resources -/

/-- The one semaphore the body's copies complete on. -/
abbrev osem0 : Fin 1 → SemLoc sig := fun _ => SemLoc.dma 9
theorem ownSemFacts0 : Pipeline.OwnSemFacts spec0 osem0 := by decide
/-- The body reads no array outside its windows. -/
def H0 : Finset (Ref sig .tc) := ∅
theorem H0_sub : H0 ⊆ Pipeline.restRefs sig spec0 := by decide
/-- The body writes one array outside its windows, the result. -/
def R0 : Finset (Ref sig .tc) := {main_v2}
theorem R0_sub : R0 ⊆ Pipeline.restRefs sig spec0 \ H0 := by decide

/-- The result on core `c`: the tile of the blocks the windows read, in each slab. -/
def result (c : Dev nD) : S4x4096x128.Idx → Elt F .f32 :=
  spread (tile (iblk m c 0 t0_0) (iblk m c 1 t0_0) (iblk m c 2 t0_0) (iblk m c 3 t0_0) (iblk m c 4 t0_0)
    (iblk m c 5 t0_0) (iblk m c 6 t0_0) (iblk m c 7 t0_0) (iblk m c 8 t0_0))

/-- What the launch leaves in the arrays no window is on: the result, everything else as found. -/
def G (c : Dev nD) (b : Ref sig .tc) : Buf (Elt F) ((c : Thread nD τ).loc b) :=
  if h : b = main_v2 then h ▸ result m c else V m c b

theorem G_v2 (c : Dev nD) : G m c main_v2 = result m c := by unfold G; rw [dif_pos rfl]

/-- What the body's point starts from and ends in, conjunct by conjunct, the result holding `X`. -/
theorem phi_eq (X : (c : Dev nD) → (b : Ref sig .tc) → Buf (Elt F) ((c : Thread nD τ).loc b)) (c : Dev nD) :
    (Pipeline.ΦDRG osem0 spec0 H0 R0 (V m) X c : sProp 𝕄)
      = iprop((∃ f, heldWhole c cc0_scratch0 f) ∗ (∃ r, prngReg c r) ∗ semVal ((c : Thread nD τ), SemLoc.dma 9) 0
          ∗ emp ∗ heldWhole c main_v2 (X c main_v2)) := by
  rw [Pipeline.ΦDRG_eq, scopedRest0_eq, Pipeline.ownSems0_eq_of_list c osem0 [0] (by decide) (by decide)]
  unfold Pipeline.routed
  rw [BI.bigSep_eq_bigSepL_of_eq (S := H0) [] (by decide) (by decide), BI.bigSep_eq_bigSepL_of_eq (S := R0) [main_v2] (by decide) (by decide)]
  rfl

/-! ## The proof data and the body's obligation -/

/-- The windows' arrays as the region finds them, every staging buffer left as fetched, the result as found before the
    point and `result` after it. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨_ + 9, h⟩ => absurd h (Nat.not_lt.2 (Nat.le_add_left _ _))
  Φ t := if t = 0 then Pipeline.ΦDRG osem0 spec0 H0 R0 (V m) (V m) c else Pipeline.ΦDRG osem0 spec0 H0 R0 (V m) (G m) c
  q w := Pipeline.shareOf spec0 w
  owed _ := 0

theorem A_eq (c : Dev nD) (w : Fin cfg0.W) : (dats m 0 c).A w = V m c (Pipeline.arrRef spec0 w) := by
  dsimp only [dats]

/-! Each input window's staging buffer holds its block when the body starts. -/

theorem before_0 (c : Dev nD) (t : Fin cfg0.N) (d) : (dats m 0 c).before 0 t d = iblk m c 0 t :=
  ((dats m 0 c).before_in_eq_fetched 0 rfl (fun _ => rfl) (fun _ _ _ => rfl) (fun _ => rfl) t d).trans rfl
theorem before_1 (c : Dev nD) (t : Fin cfg0.N) (d) : (dats m 0 c).before 1 t d = iblk m c 1 t :=
  ((dats m 0 c).before_in_eq_fetched 1 rfl (fun _ => rfl) (fun _ _ _ => rfl) (fun _ => rfl) t d).trans rfl
theorem before_2 (c : Dev nD) (t : Fin cfg0.N) (d) : (dats m 0 c).before 2 t d = iblk m c 2 t :=
  ((dats m 0 c).before_in_eq_fetched 2 rfl (fun _ => rfl) (fun _ _ _ => rfl) (fun _ => rfl) t d).trans rfl
theorem before_3 (c : Dev nD) (t : Fin cfg0.N) (d) : (dats m 0 c).before 3 t d = iblk m c 3 t :=
  ((dats m 0 c).before_in_eq_fetched 3 rfl (fun _ => rfl) (fun _ _ _ => rfl) (fun _ => rfl) t d).trans rfl
theorem before_4 (c : Dev nD) (t : Fin cfg0.N) (d) : (dats m 0 c).before 4 t d = iblk m c 4 t :=
  ((dats m 0 c).before_in_eq_fetched 4 rfl (fun _ => rfl) (fun _ _ _ => rfl) (fun _ => rfl) t d).trans rfl
theorem before_5 (c : Dev nD) (t : Fin cfg0.N) (d) : (dats m 0 c).before 5 t d = iblk m c 5 t :=
  ((dats m 0 c).before_in_eq_fetched 5 rfl (fun _ => rfl) (fun _ _ _ => rfl) (fun _ => rfl) t d).trans rfl
theorem before_6 (c : Dev nD) (t : Fin cfg0.N) (d) : (dats m 0 c).before 6 t d = iblk m c 6 t :=
  ((dats m 0 c).before_in_eq_fetched 6 rfl (fun _ => rfl) (fun _ _ _ => rfl) (fun _ => rfl) t d).trans rfl
theorem before_7 (c : Dev nD) (t : Fin cfg0.N) (d) : (dats m 0 c).before 7 t d = iblk m c 7 t :=
  ((dats m 0 c).before_in_eq_fetched 7 rfl (fun _ => rfl) (fun _ _ _ => rfl) (fun _ => rfl) t d).trans rfl
theorem before_8 (c : Dev nD) (t : Fin cfg0.N) (d) : (dats m 0 c).before 8 t d = iblk m c 8 t :=
  ((dats m 0 c).before_in_eq_fetched 8 rfl (fun _ => rfl) (fun _ _ _ => rfl) (fun _ => rfl) t d).trans rfl

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

theorem sound_body (c : Dev nD) (t : Fin cfg0.N) :
    bodyPre m c t ⊢ wp frame (wpE (defs₀ (F := F)) Variants.none c none) Set.univ (bodyAt0 t) (fun _ => bodyPost m c t) := by
  obtain rfl : t = t0_0 := fin_N0 t
  unfold bodyPre bodyPost bodyAt0
  simp only [before_0, before_1, before_2, before_3, before_4, before_5, before_6, before_7, before_8]
  rw [show (dats m 0 c).Φ t0_0.castSucc = Pipeline.ΦDRG osem0 spec0 H0 R0 (V m) (V m) c from (by dsimp only [dats]; exact if_pos (by decide)),
    show (dats m 0 c).Φ t0_0.succ = Pipeline.ΦDRG osem0 spec0 H0 R0 (V m) (G m) c from (by dsimp only [dats]; exact if_neg (by decide)), phi_eq, phi_eq, G_v2]
  unfold Dat.owesAt Pipeline.owesWithin
  rw [show (dats m 0 c).owed t0_0.castSucc = 0 from rfl, show (dats m 0 c).owed t0_0.succ = 0 from rfl]
  iintro ⟨⟨⟨%ft, Ht⟩, Hg, Hq, He, Ho⟩, ⟨%W, -, HW⟩, ⟨%_, H1⟩, ⟨%_, H2⟩, ⟨%_, H3⟩, ⟨%_, H4⟩, ⟨%_, H5⟩, ⟨%_, H6⟩, ⟨%_, H7⟩, ⟨%_, H8⟩, ⟨%_, H9⟩⟩
  iapply (kernelRun c _ _ _ _ _ _ _ _ _ _ _ _ _ _ _ _ _ _ _ fullShare fullShare fullShare fullShare fullShare fullShare fullShare
    fullShare fullShare (iblk m c 0 t0_0) (iblk m c 1 t0_0) (iblk m c 2 t0_0) (iblk m c 3 t0_0) (iblk m c 4 t0_0)
    (iblk m c 5 t0_0) (iblk m c 6 t0_0) (iblk m c 7 t0_0) (iblk m c 8 t0_0) (V m c main_v2) ft W _ trivial)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [Ho]; · iexact Ho
  isplitl [Ht]; · iexact Ht
  isplitl [Hq]; · iexact Hq
  isplitl [HW]; · iexact HW
  iintro ⟨H1, H2, H3, H4, H5, H6, H7, H8, H9, ⟨%g, %hg, Ho⟩, Ht, Hq, ⟨%W', HW'⟩⟩
  subst hg
  isplitl [Ht Hg Hq He Ho]
  · isplitl [Ht]; · iexact Ht
    isplitl [Hg]; · iexact Hg
    isplitl [Hq]; · iexact Hq
    isplitl [He]; · iexact He
    iexact Ho
  isplitl [HW']
  · iexists W'; isplitr; · ipureintro; exact fun _ _ => Or.inl trivial
    iexact HW'
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch -/

set_option maxHeartbeats 800000 in
theorem hmain (𝒱₀ : Variants) :
    Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
/-- Every run of the program ends, its semaphores at zero, every array the launch leaves alone as the region found it and the
    result at `result`. -/
theorem run_main : θ_run defs (onTc (τ := τ) (main (F := F))) (s₀ m ρ)
    (fun r => Pipeline.FramePostRG cfgs (dats m) 0 R0 (V m) (G m) r ∧ r.2.sem = fun _ => 0) :=
  Pipeline.θ_run_frame_dmaRG_shared (Q' := _) cfgs (dats m) (0 : Fin 1) launch₀0 osem0 defs₀ Variants.none ownSemFacts0 H0 R0 H0_sub R0_sub m ρ main
    (hbody := fun c => (body_obligation m c).loose) (hq := fun _ _ _ => rfl) (howed := fun _ _ => rfl) (V := V m)
    (hmain := hmain m Variants.none) (hA := A_eq m) (G := G m)
    (hin := fun c => (show (dats m 0 c).Φ 0 = Pipeline.ΦDRG osem0 spec0 H0 R0 (V m) (V m) c from (by dsimp only [dats]; exact if_pos rfl)) ▸ .rfl)
    (hout := fun c => (show (dats m 0 c).Φ (Fin.last cfg0.N) = Pipeline.ΦDRG osem0 spec0 H0 R0 (V m) (G m) c from (by dsimp only [dats]; exact if_neg (by decide))) ▸ .rfl)

/-- THE RUN. From any memory, whatever order the cores and copies take, the program ends with its semaphores at zero, every
    argument array as launched and the result array at `result`. -/
theorem run : θ_run defs (onTc (τ := τ) (main (F := F))) ⟨m, fun _ => 0, ρ⟩ (fun r => (∀ c : Dev nD,
      r.2.mem ((c.tc : Thread nD τ).loc main_v2) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c =>
    ⟨(h.1.written c (Finset.mem_singleton_self main_v2)).trans (G_v2 m c),
      ((h.1.toR c).1 0).trans (((dats m 0 c).arrAt_in 0 rfl _).trans ((A_eq m c 0).trans (V_main_arg0 m c))),
      ((h.1.toR c).1 1).trans (((dats m 0 c).arrAt_in 1 rfl _).trans ((A_eq m c 1).trans (V_main_arg1 m c))),
      ((h.1.toR c).1 5).trans (((dats m 0 c).arrAt_in 5 rfl _).trans ((A_eq m c 5).trans (V_main_arg2 m c))),
      ((h.1.toR c).2 main_arg3 (Finset.mem_sdiff.mpr ⟨Pipeline.mem_restRefs_of main_arg3 (by decide) (by decide), by decide⟩)).trans (V_main_arg3 m c),
      ((h.1.toR c).1 7).trans (((dats m 0 c).arrAt_in 7 rfl _).trans ((A_eq m c 7).trans (V_main_arg4 m c))),
      ((h.1.toR c).2 main_arg5 (Finset.mem_sdiff.mpr ⟨Pipeline.mem_restRefs_of main_arg5 (by decide) (by decide), by decide⟩)).trans (V_main_arg5 m c)⟩,
    h.2⟩) (run_main m ρ)

end Cert.KernelIdeal.Run

end
-- ==== Proof.ReferenceRun.lean ====
/-
  The run of the reference program: a straight line of host operations, cut into five stretches with a plain array
  function each.

  * `scores` — the last token's row through the two linear layers with the error-function activation between them;
  * `chances` — the softmax of the scores along a row;
  * `winner` — the row's argmax;
  * `lookup` — the table's row at that index, with the wrap of negative indices and the out-of-range fill;
  * `spreadRow` — that row at every token.

  `run` says that the program ends with its result buffer at the composition of the five, its arguments unchanged and
  every semaphore counter zero.
-/
module

public import proofs.«01_k».proof.Proof.Gen.ReferenceIdeal
public import Idealize.ShloMosaic.Lib.StableHlo.Run
public import Idealize.ShloMosaic.Lib.Pipeline.Frame
public import Idealize.ShloMosaic.Lib.Quiescent

@[expose] public section

noncomputable section

namespace Cert.ReferenceIdeal.Run

open Cert.ReferenceIdeal Cert.ReferenceIdeal.Gen
open Idealize.ShloMosaic Idealize.ShloMosaic.TcCoe Idealize.ShloMosaic.StableHlo Idealize.SL.Sem

variable {F : FTy → Type} [FloatOps F]

/-! ## The five array functions -/

/-- The hidden layer before its activation: the last token's row times the first weights, plus the first bias. -/
def hidden (x : FVec F S4x4096x1024 .f32) (w : FVec F S1024x512 .f32) (b : FVec F S512 .f32) : FVec F S4x512 .f32 :=
  addf (Host.dotGeneral dot_S4x1024_S1024x512_S4x512_1_0_0_1_n_n none
      (shapeCast S4x1024 (extractStridedSlice S4x1x1024 ![0, 4095, 0] x slices_S4x4096x1024_S4x1x1024_0_4095_0)
        shapeCasts_S4x1x1024_S4x1024) w)
    (broadcastInDim S4x512 ![0, 1] bcast_S1x512_S4x512_0_1 (broadcastInDim S1x512 ![1] bcast_S512_S1x512_1 b))

/-- The activation: half the argument times the complementary error function of the negated, scaled argument. -/
def active (h : FVec F S4x512 .f32) : FVec F S4x512 .f32 :=
  mulf (mulf (broadcastInDim S4x512 ![] bcast_S_S4x512 (constant S_ .f32 0x3F000000#32)) h)
    (Host.erfc (mulf (Host.negf h) (broadcastInDim S4x512 ![] bcast_S_S4x512 (constant S_ .f32 0x3F3504F3#32))))

/-- The scores: the activated hidden layer times the second weights, plus the second bias. -/
def scores (a : FVec F S4x512 .f32) (w : FVec F S512x119 .f32) (b : FVec F S119 .f32) : FVec F S4x119 .f32 :=
  addf (Host.dotGeneral dot_S4x512_S512x119_S4x119_1_0_0_1_n_n none a w)
    (broadcastInDim S4x119 ![0, 1] bcast_S1x119_S4x119_0_1 (broadcastInDim S1x119 ![1] bcast_S119_S1x119_1 b))

/-- The exponentials of a row's scores less the row's largest. -/
def powers (l : FVec F S4x119 .f32) : FVec F S4x119 .f32 :=
  Host.exp (subf l (broadcastInDim S4x119 ![0, 1] bcast_S4x1_S4x119_0_1 (broadcastInDim S4x1 ![0] bcast_S4_S4x1_0
    (maximumf (broadcastInDim S4 ![] bcast_S_S4 (constant S_ .f32 0xFF800000#32))
      (Host.reduce FloatOps.maximumf l (constant S_ .f32 0xFF800000#32) reducesTo_S4x119_S4_d1 h_S_)))))

/-- A row of nonnegative numbers divided by its sum. -/
def chances (e : FVec F S4x119 .f32) : FVec F S4x119 .f32 :=
  Host.divf e (broadcastInDim S4x119 ![0, 1] bcast_S4x1_S4x119_0_1 (broadcastInDim S4x1 ![0] bcast_S4_S4x1_0
    (Host.reduceAdd e (constant S_ .f32 0x00000000#32) reducesTo_S4x119_S4_d1 h_S_)))

/-- The argmax of each row. -/
def winner (p : FVec F S4x119 .f32) : IVec S4 32 := fun j =>
  (Host.argReduce reducer_argmax_f32_i32 p (iotaInDim S4x119 32 1) (constant S_ .f32 0xFF800000#32) (constantI S_ 32 0#32)
    reducesTo_S4x119_S4_d1 h_S_ j).2

/-- Indices with the negative ones moved up by the table's height, as a column. -/
def wrapped (i : IVec S4 32) : IVec S4x1 32 :=
  broadcastInDim S4x1 ![0] bcast_S4_S4x1_0
    (select (cmpi .slt i (broadcastInDim S4 ![] bcast_S_S4 (constantI S_ 32 0#32)))
      (addi i (broadcastInDim S4 ![] bcast_S_S4 (constantI S_ 32 119#32))) i)

/-- The table's row at each index, a row of not-a-number where the index is outside the table. -/
def lookup (t : FVec F S119x128 .f32) (i : IVec S4x1 32) : FVec F S4x128 .f32 :=
  select (broadcastInDim S4x128 ![0] bcast_S4_S4x128_0
      (Host.reduce IntOp.andi
        (andi (cmpi .sge i (broadcastInDim S4x1 ![] bcast_S_S4x1 (constantI S_ 32 0#32)))
          (cmpi .sle i (broadcastInDim S4x1 ![0, 1] bcast_S1x1_S4x1_0_1
            (broadcastInDim S1x1 ![1] bcast_S1_S1x1_1 (constantI S1 32 118#32)))))
        (constantI S_ 1 1#1) reducesTo_S4x1_S4_d1 h_S_))
    (Host.gather gather_S119x128_S4x1_S4x128_1_0_n_n_0_1_1128 t i)
    (broadcastInDim S4x128 ![] bcast_S_S4x128 (constant S_ .f32 0x7FC00000#32))

/-- A row per batch entry, at every token. -/
def spreadRow (r : FVec F S4x128 .f32) : FVec F S4x4096x128 .f32 :=
  broadcastInDim S4x4096x128 ![0, 1, 2] bcast_S4x1x128_S4x4096x128_0_1_2
    (broadcastInDim S4x1x128 ![0, 2] bcast_S4x128_S4x1x128_0_2 r)

/-! ## The program's operations -/

/-- The operations up to the hidden layer's activation. -/
abbrev opsHidden : List (HloOp τ sig (Elt F)) :=
  [ unary main_arg0 main_v0 (extractStridedSlice S4x1x1024 ![0, 4095, 0] · slices_S4x4096x1024_S4x1x1024_0_4095_0),
    reshape main_v0 main_v1 rfl shapeCasts_S4x1x1024_S4x1024,
    binary main_v1 main_arg2 main_v2 (fun l r => Host.dotGeneral dot_S4x1024_S1024x512_S4x512_1_0_0_1_n_n none l r),
    unary main_arg3 main_v3 (broadcastInDim S1x512 ![1] bcast_S512_S1x512_1),
    unary main_v3 main_v4 (broadcastInDim S4x512 ![0, 1] bcast_S1x512_S4x512_0_1),
    binary main_v2 main_v4 main_v5 addf,
    nullary main_cst (constant S_ .f32 0x3F000000#32),
    unary main_cst main_v6 (broadcastInDim S4x512 ![] bcast_S_S4x512),
    binary main_v6 main_v5 main_v7 mulf,
    unary main_v5 main_v8 Host.negf,
    nullary main_cst_0 (constant S_ .f32 0x3F3504F3#32),
    unary main_cst_0 main_v9 (broadcastInDim S4x512 ![] bcast_S_S4x512),
    binary main_v8 main_v9 main_v10 mulf,
    unary main_v10 main_v11 Host.erfc,
    binary main_v7 main_v11 main_v12 mulf ]

/-- The operations from there to the scores. -/
abbrev opsScores : List (HloOp τ sig (Elt F)) :=
  [ binary main_v12 main_arg4 main_v13 (fun l r => Host.dotGeneral dot_S4x512_S512x119_S4x119_1_0_0_1_n_n none l r),
    unary main_arg5 main_v14 (broadcastInDim S1x119 ![1] bcast_S119_S1x119_1),
    unary main_v14 main_v15 (broadcastInDim S4x119 ![0, 1] bcast_S1x119_S4x119_0_1),
    binary main_v13 main_v15 main_v16 addf ]

/-- The softmax's operations. -/
abbrev opsSoftmax : List (HloOp τ sig (Elt F)) :=
  [ nullary main_cst_1 (constant S_ .f32 0xFF800000#32),
    binary main_v16 main_cst_1 main_v17 (fun x v => Host.reduce FloatOps.maximumf x v reducesTo_S4x119_S4_d1 h_S_),
    nullary main_cst_2 (constant S_ .f32 0xFF800000#32),
    unary main_cst_2 main_v18 (broadcastInDim S4 ![] bcast_S_S4),
    binary main_v18 main_v17 main_v19 maximumf,
    unary main_v19 main_v20 (broadcastInDim S4x1 ![0] bcast_S4_S4x1_0),
    unary main_v20 main_v21 (broadcastInDim S4x119 ![0, 1] bcast_S4x1_S4x119_0_1),
    binary main_v16 main_v21 main_v22 subf,
    unary main_v22 main_v23 Host.exp,
    nullary main_cst_3 (constant S_ .f32 0x00000000#32),
    binary main_v23 main_cst_3 main_v24 (fun x v => Host.reduceAdd x v reducesTo_S4x119_S4_d1 h_S_),
    unary main_v24 main_v25 (broadcastInDim S4x1 ![0] bcast_S4_S4x1_0),
    unary main_v25 main_v26 (broadcastInDim S4x119 ![0, 1] bcast_S4x1_S4x119_0_1),
    binary main_v23 main_v26 main_v27 Host.divf ]

/-- The argmax's operations. -/
abbrev opsArgmax : List (HloOp τ sig (Elt F)) :=
  [ nullary main_call0_v0 (iotaInDim S4x119 32 1),
    nullary main_call0_cst (constant S_ .f32 0xFF800000#32),
    nullary main_call0_c (constantI S_ 32 0#32),
    quaternary main_v27 main_call0_v0 main_call0_cst main_call0_c main_call0_v1_0
      (fun x y u v j => (Host.argReduce reducer_argmax_f32_i32 x y u v reducesTo_S4x119_S4_d1 h_S_ j).1),
    quaternary main_v27 main_call0_v0 main_call0_cst main_call0_c main_v28
      (fun x y u v j => (Host.argReduce reducer_argmax_f32_i32 x y u v reducesTo_S4x119_S4_d1 h_S_ j).2) ]

/-- The operations that wrap a negative index. -/
abbrev opsWrap : List (HloOp τ sig (Elt F)) :=
  [ nullary main_call1_c (constantI S_ 32 0#32),
    unary main_call1_c main_call1_v0 (broadcastInDim S4 ![] bcast_S_S4),
    binary main_v28 main_call1_v0 main_call1_v1 (cmpi .slt),
    nullary main_call1_c_0 (constantI S_ 32 119#32),
    unary main_call1_c_0 main_call1_v2 (broadcastInDim S4 ![] bcast_S_S4),
    binary main_v28 main_call1_v2 main_call1_v3 addi,
    ternary main_call1_v1 main_call1_v3 main_v28 main_call1_v4 select,
    unary main_call1_v4 main_call1_v5 (broadcastInDim S4x1 ![0] bcast_S4_S4x1_0) ]

/-- The row fetch's operations. -/
abbrev opsLookup : List (HloOp τ sig (Elt F)) :=
  [ nullary main_call1_c_1 (constantI S1 32 118#32),
    nullary main_call1_c_2 (constantI S_ 32 0#32),
    unary main_call1_c_2 main_call1_v6 (broadcastInDim S4x1 ![] bcast_S_S4x1),
    binary main_call1_v5 main_call1_v6 main_call1_v7 (cmpi .sge),
    unary main_call1_c_1 main_call1_v8 (broadcastInDim S1x1 ![1] bcast_S1_S1x1_1),
    unary main_call1_v8 main_call1_v9 (broadcastInDim S4x1 ![0, 1] bcast_S1x1_S4x1_0_1),
    binary main_call1_v5 main_call1_v9 main_call1_v10 (cmpi .sle),
    binary main_call1_v7 main_call1_v10 main_call1_v11 andi,
    nullary main_call1_c_3 (constantI S_ 1 1#1),
    binary main_call1_v11 main_call1_c_3 main_call1_v12 (fun x v => Host.reduce IntOp.andi x v reducesTo_S4x1_S4_d1 h_S_),
    binary main_arg1 main_call1_v5 main_call1_v13 (fun x i => Host.gather gather_S119x128_S4x1_S4x128_1_0_n_n_0_1_1128 x i),
    unary main_call1_v12 main_call1_v14 (broadcastInDim S4x128 ![0] bcast_S4_S4x128_0),
    nullary main_call1_cst (constant S_ .f32 0x7FC00000#32),
    unary main_call1_cst main_call1_v15 (broadcastInDim S4x128 ![] bcast_S_S4x128),
    ternary main_call1_v14 main_call1_v13 main_call1_v15 main_v29 select ]

/-- The two operations that spread a row over the tokens. -/
abbrev opsSpread : List (HloOp τ sig (Elt F)) :=
  [ unary main_v29 main_v30 (broadcastInDim S4x1x128 ![0, 2] bcast_S4x128_S4x1x128_0_2),
    unary main_v30 main_v31 (broadcastInDim S4x4096x128 ![0, 1, 2] bcast_S4x1x128_S4x4096x128_0_1_2) ]

/-- The whole program's operations, in order. -/
abbrev ops : List (HloOp τ sig (Elt F)) :=
  opsHidden ++ (opsScores ++ (opsSoftmax ++ (opsArgmax ++ (opsWrap ++ (opsLookup ++ opsSpread)))))

/-- The program is that straight line. -/
theorem main_eq (c : Dev nD) : main (F := F) c = seq ops := rfl

/-- Every operation of a list reads and writes TensorCore buffers only. -/
def OnTc (l : List (HloOp τ sig (Elt F))) : Prop := ∀ op ∈ l, op.bufs ⊆ tcRefs τ sig

theorem onTc_append {l l' : List (HloOp τ sig (Elt F))} (h : OnTc l) (h' : OnTc l') : OnTc (l ++ l') := fun op ho =>
  (List.mem_append.mp ho).elim (h op) (h' op)

theorem ops_onTc : OnTc (ops : List (HloOp τ sig (Elt F))) := by
  refine onTc_append ?_ (onTc_append ?_ (onTc_append ?_ (onTc_append ?_ (onTc_append ?_ (onTc_append ?_ ?_))))) <;>
    unfold OnTc <;>
    (repeat' first
      | exact List.forall_mem_nil _
      | with_reducible refine List.forall_mem_cons.mpr ⟨?_, ?_⟩
      | with_reducible exact nullary_bufs_sub ..
      | with_reducible exact unary_bufs_sub ..
      | with_reducible exact binary_bufs_sub ..
      | with_reducible exact ternary_bufs_sub ..
      | with_reducible exact reshape_bufs_sub ..
      | with_reducible exact quaternary_bufs_sub ..)

/-! ## What each stretch leaves -/

theorem hidden_eq (V : Valuation τ sig (Elt F)) :
    after opsHidden V (main_v12 : DevRef τ sig)
      = active (hidden (V (main_arg0 : DevRef τ sig)) (V (main_arg2 : DevRef τ sig)) (V (main_arg3 : DevRef τ sig))) := by
  after_results
  rfl

theorem scores_eq (V : Valuation τ sig (Elt F)) :
    after opsScores V (main_v16 : DevRef τ sig)
      = scores (V (main_v12 : DevRef τ sig)) (V (main_arg4 : DevRef τ sig)) (V (main_arg5 : DevRef τ sig)) := by
  after_results
  rfl

theorem softmax_eq (V : Valuation τ sig (Elt F)) :
    after opsSoftmax V (main_v27 : DevRef τ sig) = chances (powers (V (main_v16 : DevRef τ sig))) := by
  after_results
  rfl

theorem argmax_eq (V : Valuation τ sig (Elt F)) :
    after opsArgmax V (main_v28 : DevRef τ sig) = winner (V (main_v27 : DevRef τ sig)) := by
  after_results
  rfl

theorem wrap_eq (V : Valuation τ sig (Elt F)) :
    after opsWrap V (main_call1_v5 : DevRef τ sig) = wrapped (V (main_v28 : DevRef τ sig)) := by
  after_results
  rfl

theorem lookup_eq (V : Valuation τ sig (Elt F)) :
    after opsLookup V (main_v29 : DevRef τ sig)
      = lookup (V (main_arg1 : DevRef τ sig)) (V (main_call1_v5 : DevRef τ sig)) := by
  after_results
  rfl

theorem spread_eq (V : Valuation τ sig (Elt F)) :
    after opsSpread V (main_v31 : DevRef τ sig) = spreadRow (V (main_v29 : DevRef τ sig)) := by
  after_results
  rfl

/-- The program's six arguments. -/
def args : List (Ref sig .tc) := [main_arg0, main_arg1, main_arg2, main_arg3, main_arg4, main_arg5]

/-- Every operation of a list writes one buffer, which is no argument. -/
def Spares (l : List (HloOp τ sig (Elt F))) : Prop :=
  ∀ op ∈ l, ∃ y : Ref sig .tc, op.writes = {Proc.devRef (τ := τ) .tc y} ∧ y ∉ args

theorem spares_hidden : Spares (opsHidden (F := F)) := by
  unfold Spares
  repeat' first
    | exact List.forall_mem_nil _
    | with_reducible refine List.forall_mem_cons.mpr ⟨⟨_, rfl, by decide⟩, ?_⟩

theorem spares_scores : Spares (opsScores (F := F)) := by
  unfold Spares
  repeat' first
    | exact List.forall_mem_nil _
    | with_reducible refine List.forall_mem_cons.mpr ⟨⟨_, rfl, by decide⟩, ?_⟩

theorem spares_softmax : Spares (opsSoftmax (F := F)) := by
  unfold Spares
  repeat' first
    | exact List.forall_mem_nil _
    | with_reducible refine List.forall_mem_cons.mpr ⟨⟨_, rfl, by decide⟩, ?_⟩

theorem spares_argmax : Spares (opsArgmax (F := F)) := by
  unfold Spares
  repeat' first
    | exact List.forall_mem_nil _
    | with_reducible refine List.forall_mem_cons.mpr ⟨⟨_, rfl, by decide⟩, ?_⟩

theorem spares_wrap : Spares (opsWrap (F := F)) := by
  unfold Spares
  repeat' first
    | exact List.forall_mem_nil _
    | with_reducible refine List.forall_mem_cons.mpr ⟨⟨_, rfl, by decide⟩, ?_⟩

theorem spares_lookup : Spares (opsLookup (F := F)) := by
  unfold Spares
  repeat' first
    | exact List.forall_mem_nil _
    | with_reducible refine List.forall_mem_cons.mpr ⟨⟨_, rfl, by decide⟩, ?_⟩

theorem spares_spread : Spares (opsSpread (F := F)) := by
  unfold Spares
  repeat' first
    | exact List.forall_mem_nil _
    | with_reducible refine List.forall_mem_cons.mpr ⟨⟨_, rfl, by decide⟩, ?_⟩

/-- A list that spares the arguments leaves each of them. -/
theorem after_arg {l : List (HloOp τ sig (Elt F))} (h : Spares l) {r : Ref sig .tc} (hr : r ∈ args)
    (V : Valuation τ sig (Elt F)) : after l V (r : DevRef τ sig) = V (r : DevRef τ sig) := by
  refine after_of_forall_not_mem l V fun op ho hb => ?_
  obtain ⟨y, hw, hy⟩ := h op ho
  rw [hw, Finset.mem_singleton] at hb
  exact hy (Proc.devRef_injective _ hb ▸ hr)

/-- The whole program leaves each argument. -/
theorem ops_arg {r : Ref sig .tc} (hr : r ∈ args) (V : Valuation τ sig (Elt F)) :
    after ops V (r : DevRef τ sig) = V (r : DevRef τ sig) := by
  simp only [ops, after_append]
  rw [after_arg spares_spread hr, after_arg spares_lookup hr, after_arg spares_wrap hr, after_arg spares_argmax hr,
    after_arg spares_softmax hr, after_arg spares_scores hr, after_arg spares_hidden hr]

/-- The program's result as a function of its arguments. -/
def value (x : FVec F S4x4096x1024 .f32) (t : FVec F S119x128 .f32) (w1 : FVec F S1024x512 .f32) (b1 : FVec F S512 .f32)
    (w2 : FVec F S512x119 .f32) (b2 : FVec F S119 .f32) : FVec F S4x4096x128 .f32 :=
  spreadRow (lookup t (wrapped (winner (chances (powers (scores (active (hidden x w1 b1)) w2 b2))))))

/-- What the program leaves in its result buffer. -/
theorem ops_value (V : Valuation τ sig (Elt F)) :
    after ops V (main_v31 : DevRef τ sig)
      = value (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  simp only [ops, after_append]
  rw [spread_eq, lookup_eq, wrap_eq, argmax_eq, softmax_eq, scores_eq, hidden_eq,
    after_arg spares_wrap (by decide), after_arg spares_argmax (by decide), after_arg spares_softmax (by decide),
    after_arg spares_scores (by decide), after_arg spares_hidden (by decide), after_arg spares_hidden (by decide),
    after_arg spares_hidden (by decide)]
  rfl

/-! ## The run -/

/-- The program scopes no buffer and no semaphore. -/
theorem scopedRefs_eq : (Finset.univ.filter fun b : Ref sig .tc => b.isScoped) = ∅ := by decide
theorem scopedSems_eq : (Finset.univ.filter fun sm : SemLoc sig => sm.isScoped .tc) = ∅ := by decide

/-- From any memory with zero counters the program terminates, with its result buffer at `value` of its arguments, the
    arguments unchanged and every counter zero. -/
theorem run (m : (ℓ : Loc nD τ sig) → Buf (Elt F) ℓ) (ρ : Dev nD → PrngReg) :
    θ_run defs (onTc (τ := τ) (main (F := F))) ⟨m, fun _ => 0, ρ⟩ fun r =>
      (∀ c : Dev nD,
        r.2.mem ((c.tc : Thread nD τ).loc main_v31)
            = value (m ((c.tc : Thread nD τ).loc main_arg0)) (m ((c.tc : Thread nD τ).loc main_arg1))
                (m ((c.tc : Thread nD τ).loc main_arg2)) (m ((c.tc : Thread nD τ).loc main_arg3))
                (m ((c.tc : Thread nD τ).loc main_arg4)) (m ((c.tc : Thread nD τ).loc main_arg5))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5))
      ∧ r.2.sem = fun _ => 0 :=
  (θ_run defs _ _).mono
    (fun r h => ⟨fun c => ⟨(h c main_v31).trans (ops_value _), (h c main_arg0).trans (ops_arg (by decide) _),
        (h c main_arg1).trans (ops_arg (by decide) _), (h c main_arg2).trans (ops_arg (by decide) _),
        (h c main_arg3).trans (ops_arg (by decide) _), (h c main_arg4).trans (ops_arg (by decide) _),
        (h c main_arg5).trans (ops_arg (by decide) _)⟩, sem_eq_zero_of_no_sems (by decide) r.2⟩)
    (run_seq scopedRefs_eq scopedSems_eq defs main (fun _ => ops) main_eq
      (fun _ => List.forall_iff_forall_mem.mpr ops_onTc) m ρ)

end Cert.ReferenceIdeal.Run

end
-- ==== Proof.FirstMax.lean ====
/-
  The first place where a finite family of extended reals is largest, and the three ways a program finds it.

  * `IsFirst f k` says that `f k` is the largest value and that no earlier place has it; such a `k` exists, and depends
    only on the order of the values.
  * `fold_max` and `fold_min` — the largest value by a fold of `max`, then the least place holding it by a fold of the
    signed minimum over machine words, the places not holding it counting as a large word.
  * `foldl_pick` — one left fold over pairs of a value and a place that keeps the better pair.
-/
module

public import Idealize.ShloMosaic.PureOps.Ideal.Laws
public import Idealize.ShloMosaic.PureOps.Reduce

@[expose] public section

namespace Cert.FirstMax

open Idealize.ShloMosaic

variable {n : ℕ}

/-- `f k` is the largest value of `f`, and every earlier place has a smaller one. -/
def IsFirst (f : Fin n → EReal) (k : Fin n) : Prop := (∀ i, f i ≤ f k) ∧ ∀ i, i < k → f i < f k

/-- A nonempty finite family has a first largest place. -/
theorem exists_first [NeZero n] (f : Fin n → EReal) : ∃ k, IsFirst f k := by
  obtain ⟨a, ha⟩ := Finite.exists_max f
  let S : Finset (Fin n) := Finset.univ.filter fun i => f i = f a
  have hS : S.Nonempty := ⟨a, by simp [S]⟩
  have hk : f (S.min' hS) = f a := (Finset.mem_filter.mp (S.min'_mem hS)).2
  refine ⟨S.min' hS, fun i => hk ▸ ha i, fun i hi => lt_of_le_of_ne (hk ▸ ha i) fun he => ?_⟩
  exact absurd (S.min'_le i (Finset.mem_filter.mpr ⟨Finset.mem_univ _, he.trans hk⟩)) (not_le.mpr hi)

/-- Families ordered alike have the same first largest place. -/
theorem IsFirst.of_order {f g : Fin n → EReal} {k : Fin n} (hf : IsFirst f k) (h : ∀ i j, f i < f j ↔ g i < g j) :
    IsFirst g k :=
  ⟨fun i => not_lt.mp fun hc => absurd ((h k i).mpr hc) (not_lt.mpr (hf.1 i)), fun i hi => (h i k).mp (hf.2 i hi)⟩

/-- The fold of `max` from minus infinity is the value at the first largest place. -/
theorem fold_max {f : Fin n → EReal} {k : Fin n} (hf : IsFirst f k) :
    (Finset.univ : Finset (Fin n)).fold max ⊥ f = f k :=
  le_antisymm (Finset.fold_max_le _ |>.mpr ⟨bot_le, fun i _ => hf.1 i⟩)
    (Finset.le_fold_max _ |>.mpr (.inr ⟨k, Finset.mem_univ _, le_rfl⟩))

/-- A small word's signed reading is the number it was made from. -/
theorem toInt_ofNat {i : ℕ} (h : i < 2 ^ 31) : (BitVec.ofNat 32 i).toInt = (i : ℤ) := by
  rw [BitVec.toInt_eq_toNat_cond, BitVec.toNat_ofNat, Nat.mod_eq_of_lt (by omega), if_pos (by omega)]

/-- The signed minimum reads as the minimum of the readings. -/
theorem toInt_minsi (x y : BitVec 32) : (IKind.minsi.op x y).toInt = min x.toInt y.toInt := by
  show (IntOp.minsi x y).toInt = _
  unfold IntOp.minsi
  by_cases h : x.slt y = true
  · rw [if_pos h, min_eq_left (le_of_lt (BitVec.slt_iff_toInt_lt.mp h))]
  · rw [if_neg h, min_eq_right (not_lt.mp fun hc => h (BitVec.slt_iff_toInt_lt.mpr hc))]

/-- The fold of the signed minimum, from the largest word, over the places holding the largest value (any other place
    counting as the word of the family's length) is the first largest place. -/
theorem fold_min (hn : n < 2 ^ 31) {f : Fin n → EReal} {k : Fin n} (hf : IsFirst f k) (g : Fin n → BitVec 32)
    (hg : ∀ i, g i = if f i = f k then BitVec.ofNat 32 i.val else BitVec.ofNat 32 n) :
    (Finset.univ : Finset (Fin n)).fold IKind.minsi.op 2147483647#32 g = BitVec.ofNat 32 k.val := by
  have hk := k.isLt
  apply BitVec.eq_of_toInt_eq
  rw [← Finset.fold_hom (op' := min) (m := BitVec.toInt) toInt_minsi, toInt_ofNat (i := k.val) (by omega)]
  have hgk : (g k).toInt = k.val := by rw [hg, if_pos rfl, toInt_ofNat (by omega)]
  refine le_antisymm (Finset.fold_min_le _ |>.mpr (.inr ⟨k, Finset.mem_univ _, hgk.le⟩)) ?_
  refine Finset.le_fold_min _ |>.mpr ⟨?_, fun i _ => ?_⟩
  · rw [show (2147483647#32 : BitVec 32).toInt = 2147483647 from rfl]; omega
  · rw [hg]
    by_cases h : f i = f k
    · rw [if_pos h, toInt_ofNat (by omega)]
      have : ¬ i < k := fun hc => absurd h (ne_of_lt (hf.2 i hc))
      exact_mod_cast not_lt.mp this
    · rw [if_neg h, toInt_ofNat hn]; omega

/-! ## The fold over pairs -/

/-- One pair is at least as good as another: a larger value, or the same value and no later a place. -/
def Better (p q : EReal × BitVec 32) : Prop := q.1 < p.1 ∨ (p.1 = q.1 ∧ p.2.toInt ≤ q.2.toInt)

/-- A pair is at least as good as itself. -/
theorem Better.refl (p : EReal × BitVec 32) : Better p p := .inr ⟨rfl, le_rfl⟩

/-- Being at least as good is transitive. -/
theorem Better.trans {p q r : EReal × BitVec 32} (h : Better p q) (h' : Better q r) : Better p r := by
  rcases h with h | ⟨h, i⟩ <;> rcases h' with h' | ⟨h', i'⟩
  · exact .inl (h'.trans h)
  · exact .inl (h' ▸ h)
  · exact .inl (h ▸ h')
  · exact .inr ⟨h.trans h', i.trans i'⟩

/-- Two pairs at least as good as each other are equal. -/
theorem Better.antisymm {p q : EReal × BitVec 32} (h : Better p q) (h' : Better q p) : p = q := by
  rcases h with h | ⟨h, i⟩ <;> rcases h' with h' | ⟨h', i'⟩
  · exact absurd (h.trans h') (lt_irrefl _)
  · exact absurd h (h' ▸ lt_irrefl _)
  · exact absurd h' (h ▸ lt_irrefl _)
  · exact Prod.ext h (BitVec.eq_of_toInt_eq (le_antisymm i i'))

/-- A step keeping one of its two pairs, and the better of them. -/
def Keeps (step : EReal × BitVec 32 → EReal × BitVec 32 → EReal × BitVec 32) : Prop :=
  ∀ a b, (step a b = a ∨ step a b = b) ∧ Better (step a b) a ∧ Better (step a b) b

/-- A left fold of such a step ends with one of its pairs, at least as good as each of them. -/
theorem foldl_keeps {step : EReal × BitVec 32 → EReal × BitVec 32 → EReal × BitVec 32} (hs : Keeps step) :
    ∀ (l : List (EReal × BitVec 32)) (a : EReal × BitVec 32),
      (l.foldl step a = a ∨ l.foldl step a ∈ l) ∧ Better (l.foldl step a) a ∧ ∀ p ∈ l, Better (l.foldl step a) p
  | [], a => ⟨.inl rfl, .refl a, fun _ h => absurd h List.not_mem_nil⟩
  | b :: l, a => by
    obtain ⟨hm, ha, hl⟩ := foldl_keeps hs l (step a b)
    obtain ⟨hc, h1, h2⟩ := hs a b
    rw [List.foldl_cons]
    refine ⟨?_, ha.trans h1, fun p hp => ?_⟩
    · rcases hm with hm | hm
      · rcases hc with hc | hc
        · exact .inl (hm.trans hc)
        · exact .inr (List.mem_cons.mpr (.inl (hm.trans hc)))
      · exact .inr (List.mem_cons.mpr (.inr hm))
    · rcases List.mem_cons.mp hp with rfl | hp
      · exact ha.trans h2
      · exact hl p hp

/-- A left fold of such a step over the pairs of value and place, from minus infinity and place zero, ends with the
    place of the first largest value — when that value is above minus infinity. -/
theorem foldl_pick {step : EReal × BitVec 32 → EReal × BitVec 32 → EReal × BitVec 32} (hs : Keeps step)
    (hn : n < 2 ^ 31) {f : Fin n → EReal} {k : Fin n} (hf : IsFirst f k) (hb : ⊥ < f k) (l : List (EReal × BitVec 32))
    (hl : ∀ p, p ∈ l ↔ ∃ i : Fin n, p = (f i, BitVec.ofNat 32 i.val)) :
    (l.foldl step (⊥, 0#32)).2 = BitVec.ofNat 32 k.val := by
  obtain ⟨hm, h0, hp⟩ := foldl_keeps hs l (⊥, 0#32)
  have hk := k.isLt
  have best : ∀ i : Fin n, Better (f k, BitVec.ofNat 32 k.val) (f i, BitVec.ofNat 32 i.val) := fun i => by
    rcases lt_or_eq_of_le (hf.1 i) with h | h
    · exact .inl h
    · refine .inr ⟨h.symm, ?_⟩
      show (BitVec.ofNat 32 k.val).toInt ≤ (BitVec.ofNat 32 i.val).toInt
      have hi := i.isLt
      rw [toInt_ofNat (by omega), toInt_ofNat (by omega)]
      exact_mod_cast not_lt.mp fun hc : i < k => absurd h (ne_of_lt (hf.2 i hc))
  have hfrom := hp _ ((hl _).mpr ⟨k, rfl⟩)
  have hto : Better (f k, BitVec.ofNat 32 k.val) (l.foldl step (⊥, 0#32)) := by
    rcases hm with hm | hm
    · rw [hm]; exact .inl hb
    · obtain ⟨i, hi⟩ := (hl _).mp hm
      rw [hi]; exact best i
  rw [hfrom.antisymm hto]

end Cert.FirstMax
-- ==== Proof.Reals.lean ====
/-
  Real numbers among the extended reals, and the softmax of a row of them.

  * `IsReal` is closed under what a layer computes: sums, products, differences, the error function.
  * `chance` is a row's softmax; on a row of real numbers it is ordered as the row is (`chance_order`) and above minus
    infinity (`bot_lt_chance`).
-/
module

public import proofs.«01_k».proof.Proof.FirstMax

@[expose] public section

noncomputable section

namespace Cert.Reals

open Idealize.ShloMosaic Cert.FirstMax

/-- An extended real that is a real number. -/
def IsReal (x : EReal) : Prop := ∃ r : ℝ, x = (r : EReal)

/-- A sum of two reals is real. -/
theorem IsReal.add {x y : EReal} : IsReal x → IsReal y → IsReal (x + y)
  | ⟨r, hr⟩, ⟨s, hs⟩ => ⟨r + s, by rw [hr, hs, EReal.coe_add]⟩

/-- A product of two reals is real. -/
theorem IsReal.mul {x y : EReal} : IsReal x → IsReal y → IsReal (x * y)
  | ⟨r, hr⟩, ⟨s, hs⟩ => ⟨r * s, by rw [hr, hs, EReal.coe_mul]⟩

/-- The error function of a real is real. -/
theorem IsReal.erf {x : EReal} : IsReal x → IsReal (Ideal.erf x)
  | ⟨r, hr⟩ => ⟨_, by rw [hr, Ideal.erf_coe]⟩

/-- One is real. -/
theorem isReal_one : IsReal 1 := ⟨1, EReal.coe_one.symm⟩

/-- A finite sum of reals is real. -/
theorem isReal_sum {ι : Type*} (s : Finset ι) {f : ι → EReal} (h : ∀ i, IsReal (f i)) : IsReal (∑ i ∈ s, f i) := by
  classical
  induction s using Finset.induction_on with
  | empty => exact ⟨0, by simp⟩
  | insert a s ha ih => rw [Finset.sum_insert ha]; exact (h a).add ih

/-- A finite sum of coerced reals is the coerced sum. -/
theorem coe_sum {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, EReal.coe_add, ih]

/-- An extended real of absolute value below infinity is real. -/
theorem isReal_of_abs {x : EReal} (h : max x (-x) < ⊤) : IsReal x := by
  induction x using EReal.rec with
  | bot => simp at h
  | coe r => exact ⟨r, rfl⟩
  | top => simp at h

/-- The pattern of one half denotes a real. -/
theorem isReal_half : IsReal (Ideal.ofBits .f32 0x3F000000#32) := by
  show ∃ r : ℝ, Ideal.ieee 8 23 (0x3F000000#32) = (r : EReal)
  unfold Ideal.ieee
  dsimp only
  rw [if_neg (by decide), if_neg (by decide)]
  exact ⟨_, rfl⟩

/-- The pattern of the reciprocal of the square root of two denotes a real. -/
theorem isReal_scale : IsReal (Ideal.ofBits .f32 0x3F3504F3#32) := by
  show ∃ r : ℝ, Ideal.ieee 8 23 (0x3F3504F3#32) = (r : EReal)
  unfold Ideal.ieee
  dsimp only
  rw [if_neg (by decide), if_neg (by decide)]
  exact ⟨_, rfl⟩

/-- The pattern of minus infinity denotes it. -/
theorem ofBits_bot : Ideal.ofBits .f32 0xFF800000#32 = ⊥ := by
  show Ideal.ieee 8 23 (0xFF800000#32) = _
  unfold Ideal.ieee
  dsimp only
  rw [if_pos (by decide), if_pos (by decide), if_pos (by decide)]

/-- The pattern of infinity denotes it. -/
theorem ofBits_top : Ideal.ofBits .f32 0x7F800000#32 = ⊤ := by
  show Ideal.ieee 8 23 (0x7F800000#32) = _
  unfold Ideal.ieee
  dsimp only
  rw [if_pos (by decide), if_pos (by decide), if_neg (by decide)]

/-! ## The softmax of a row -/

variable {n : ℕ}

/-- A row's exponentials, each entry less the row's largest. -/
def power (l : Fin n → EReal) (i : Fin n) : EReal :=
  Ideal.exp (l i - max ⊥ ((Finset.univ : Finset (Fin n)).fold max ⊥ l))

/-- A row's softmax. -/
def chance (l : Fin n → EReal) (i : Fin n) : EReal := Ideal.div (power l i) (0 + ∑ j, power l j)

/-- A row of reals has as softmax the real exponentials times one positive real. -/
theorem chance_eq {l : Fin n → EReal} {r : Fin n → ℝ} (h : ∀ i, l i = (r i : EReal)) {k : Fin n} (hk : IsFirst l k) :
    ∃ c : ℝ, 0 < c ∧ ∀ i, chance l i = ((Real.exp (r i - r k) * c : ℝ) : EReal) := by
  have hp : ∀ i, power l i = ((Real.exp (r i - r k) : ℝ) : EReal) := fun i => by
    rw [power, fold_max hk, max_eq_right bot_le, h, h, ← EReal.coe_sub, Ideal.exp_coe]
  have hs : (0 : EReal) + ∑ j, power l j = ((∑ j, Real.exp (r j - r k) : ℝ) : EReal) := by
    rw [zero_add, ← coe_sum]; exact Finset.sum_congr rfl fun j _ => hp j
  have hpos : 0 < ∑ j, Real.exp (r j - r k) :=
    Finset.sum_pos (fun j _ => Real.exp_pos _) ⟨k, Finset.mem_univ _⟩
  refine ⟨1 / ∑ j, Real.exp (r j - r k), one_div_pos.mpr hpos, fun i => ?_⟩
  rw [chance, hs, Ideal.div_coe hpos.ne', hp, EReal.coe_mul]

/-- The softmax of a row of reals is ordered as the row. -/
theorem chance_order {l : Fin n → EReal} (h : ∀ i, IsReal (l i)) {k : Fin n} (hk : IsFirst l k) (i j : Fin n) :
    l i < l j ↔ chance l i < chance l j := by
  choose r hr using h
  obtain ⟨c, hc, he⟩ := chance_eq hr hk
  rw [he, he, hr, hr, EReal.coe_lt_coe_iff, EReal.coe_lt_coe_iff, mul_lt_mul_iff_left₀ hc, Real.exp_lt_exp,
    sub_lt_sub_iff_right]

/-- … and lies above minus infinity. -/
theorem bot_lt_chance {l : Fin n → EReal} (h : ∀ i, IsReal (l i)) {k : Fin n} (hk : IsFirst l k) (i : Fin n) :
    ⊥ < chance l i := by
  choose r hr using h
  obtain ⟨c, hc, he⟩ := chance_eq hr hk
  rw [he]; exact EReal.bot_lt_coe _

end Cert.Reals

end
-- ==== Proof.FinitePre.lean ====
/-
  The precondition's function, all ones: every entry of the last token's rows, of the two weights and of the two biases
  is a real number.
-/
module

public import proofs.«01_k».proof.Pre_finite
public import proofs.«01_k».proof.Proof.Reals
public import Idealize.ShloMosaic.Lib.ValueIdxCore
public import Idealize.ShloMosaic.Lib.ValueIdx
public import Idealize.ShloMosaic.Lib.Pipeline.Value

@[expose] public section

noncomputable section

namespace Cert.Pre_finite

open Idealize.ShloMosaic Idealize.ShloMosaic.ValueIdx Cert.Reals

/-- The side conditions of the function's operations hold. -/
theorem facts : Facts where
  slices_S4x4096x1024_S4x1x1024_0_4095_0 := by decide
  shapeCasts_S4x1x1024_S4x1024 := by decide
  bcast_S_S4x1024 := by decide
  reducesTo_S4x1024_S_d0_1 := by decide
  h_S_ := by decide
  bcast_S_S1024x512 := by decide
  reducesTo_S1024x512_S_d0_1 := by decide
  bcast_S_S512 := by decide
  reducesTo_S512_S_d0 := by decide
  bcast_S_S512x119 := by decide
  reducesTo_S512x119_S_d0_1 := by decide
  bcast_S_S119 := by decide
  reducesTo_S119_S_d0 := by decide

/-- A conjunction of two flags is set only when both are. -/
theorem and_one {x y : BitVec 1} (h : IntOp.andi x y = 1#1) : x = 1#1 ∧ y = 1#1 := by
  revert x y; unfold IntOp.andi; decide

/-- A left fold of the conjunction is set only when the start and every flag are. -/
theorem foldl_and {ι : Type} (g : ι → BitVec 1) : ∀ (l : List ι) (a : BitVec 1),
    l.foldl (fun r i => IntOp.andi r (g i)) a = 1#1 → a = 1#1 ∧ ∀ i ∈ l, g i = 1#1
  | [], a, h => ⟨h, fun _ hi => absurd hi List.not_mem_nil⟩
  | i :: l, a, h => by
    obtain ⟨h1, h2⟩ := foldl_and g l _ h
    obtain ⟨ha, hi⟩ := and_one h1
    refine ⟨ha, fun j hj => ?_⟩
    rcases List.mem_cons.mp hj with rfl | hj
    · exact hi
    · exact h2 j hj

/-- The test of one array: when the conjunction over all entries of "the absolute value is below infinity" is set,
    every entry is real. -/
theorem isReal_of_test {s : Shape} {axes : List (Fin s.rank)} (hb : S_.BroadcastsInDim s (![] : Fin 0 → Fin s.rank))
    (hr : s.ReducesTo axes S_) (hn : 0 < S_.numel) (x : FVec Ideal s .f32)
    (h : Host.reduce IntOp.andi (cmpf .olt (Host.absf x) (broadcastInDim s ![] hb (constant S_ .f32 0x7F800000#32)))
      (constantI S_ 1 1#1) hr hn ix0 = 1#1) (i : s.Idx) : IsReal (x i) := by
  rw [Host.reduce_eq_foldl] at h
  have hi := (foldl_and _ _ _ h).2 i (List.mem_filter.mpr
    ⟨List.mem_map.mpr ⟨s.rowMajor i, List.mem_finRange _, Equiv.symm_apply_apply _ _⟩, decide_eq_true (funext fun a => a.elim0)⟩)
  refine isReal_of_abs ?_
  have hi' : Ideal.cmp .olt (max (x i) (-(x i))) (Ideal.ofBits .f32 0x7F800000#32) = 1#1 := hi
  rw [ofBits_top] at hi'
  by_contra hc
  simp [Ideal.cmp, hc] at hi'

/-- The function all ones: every entry it tests is real. -/
theorem isReal_of_fn [Facts] {a0 : FVec Ideal S4x4096x1024 .f32} {a1 : FVec Ideal S119x128 .f32}
    {a2 : FVec Ideal S1024x512 .f32} {a3 : FVec Ideal S512 .f32} {a4 : FVec Ideal S512x119 .f32} {a5 : FVec Ideal S119 .f32}
    (h : fn a0 a1 a2 a3 a4 a5 = fun _ => 1#1) :
    (∀ (b : Fin 4) (k : Fin 1024), IsReal (a0 (ix3 b (4095 : Fin 4096) k))) ∧ (∀ i, IsReal (a2 i)) ∧ (∀ i, IsReal (a3 i))
      ∧ (∀ i, IsReal (a4 i)) ∧ ∀ i, IsReal (a5 i) := by
  obtain ⟨h, h5⟩ := and_one (congrFun h ix0)
  obtain ⟨h, h4⟩ := and_one h
  obtain ⟨h, h3⟩ := and_one h
  obtain ⟨h0, h2⟩ := and_one h
  refine ⟨fun b k => ?_, isReal_of_test _ _ _ a2 h2, isReal_of_test _ _ _ a3 h3, isReal_of_test _ _ _ a4 h4,
    isReal_of_test _ _ _ a5 h5⟩
  have hx := isReal_of_test _ _ _ _ h0 (ix2 b k)
  rw [shapeCast_apply _ _ (ix2 b k) (ix3 b (0 : Fin 1) k) (by
      rw [Shape.rowMajor_val_two, Shape.rowMajor_val_three]
      show (b.val * 1 + 0) * 1024 + k.val = b.val * 1024 + k.val
      omega)] at hx
  refine (congrArg IsReal (extractStridedSlice_apply _ a0 _ (ix3 b (0 : Fin 1) k) (ix3 b (4095 : Fin 4096) k) fun a => ?_)).mp hx
  match a with
  | ⟨0, _⟩ => show b.val = 0 + b.val; omega
  | ⟨1, _⟩ => rfl
  | ⟨2, _⟩ => show k.val = 0 + k.val; omega

end Cert.Pre_finite

end
-- ==== Proof.Layer.lean ====
/-
  The two linear layers as formulas over extended reals, and when their values are real numbers.
-/
module

public import proofs.«01_k».proof.Proof.Reals
public import Idealize.ShloMosaic.Lib.Pipeline.ValueKit.Acc

@[expose] public section

noncomputable section

namespace Cert.Layer

open Idealize.ShloMosaic Cert.Reals

/-- One hidden unit before its activation: the product of the row by a column of the first weights, plus a bias. -/
def unit (x : Fin 1024 → EReal) (w : Fin 1024 → Fin 512 → EReal) (b : Fin 512 → EReal) (j : Fin 512) : EReal :=
  (∑ k, x k * w k j) + b j

/-- The activation: half the argument times one plus the error function of the scaled argument. -/
def act (h : EReal) : EReal :=
  Ideal.ofBits .f32 0x3F000000#32 * h * (1 + Ideal.erf (h * Ideal.ofBits .f32 0x3F3504F3#32))

/-- One score: the product of the activated hidden units by a column of the second weights, plus a bias. -/
def score (x : Fin 1024 → EReal) (w : Fin 1024 → Fin 512 → EReal) (b : Fin 512 → EReal) (u : Fin 512 → Fin 119 → EReal)
    (e : Fin 119 → EReal) (c : Fin 119) : EReal :=
  (∑ j, act (unit x w b j) * u j c) + e c

/-- On real rows, weights and biases the scores are real. -/
theorem isReal_score {x : Fin 1024 → EReal} {w : Fin 1024 → Fin 512 → EReal} {b : Fin 512 → EReal}
    {u : Fin 512 → Fin 119 → EReal} {e : Fin 119 → EReal} (hx : ∀ k, IsReal (x k)) (hw : ∀ k j, IsReal (w k j))
    (hb : ∀ j, IsReal (b j)) (hu : ∀ j c, IsReal (u j c)) (he : ∀ c, IsReal (e c)) (c : Fin 119) :
    IsReal (score x w b u e c) := by
  have hunit : ∀ j, IsReal (unit x w b j) := fun j => (isReal_sum _ fun k => (hx k).mul (hw k j)).add (hb j)
  have hact : ∀ j, IsReal (act (unit x w b j)) := fun j =>
    (isReal_half.mul (hunit j)).mul (isReal_one.add ((hunit j).mul isReal_scale).erf)
  exact (isReal_sum _ fun j => (hact j).mul (hu j c)).add (he c)

/-- A sum over 1024 places is the sum of its four quarters, added from the left. -/
theorem sum_quarters (f : Fin 1024 → EReal) :
    ((∑ k : Fin 256, f ⟨k.val, by omega⟩) + ∑ k : Fin 256, f ⟨256 + k.val, by omega⟩)
        + (∑ k : Fin 256, f ⟨512 + k.val, by omega⟩) + ∑ k : Fin 256, f ⟨768 + k.val, by omega⟩ = ∑ k, f k := by
  rw [← Fin.sum_mul_add_fin 4 256 f, Fin.sum_univ_four]
  congr 1

end Cert.Layer

end
-- ==== Proof.KernelPick.lean ====
/-
  What the kernel stores, from its scores on: each batch entry's row of the table at the first largest score.

  The kernel takes a row's largest score, then the least class that has it, then multiplies the row marking that class
  by the table, and repeats the product along the tokens.
-/
module

public import proofs.«01_k».proof.Proof.FirstMax
public import proofs.«01_k».proof.Proof.Reals
public import proofs.«01_k».proof.Proof.Gen.KernelIdeal.Skeleton
public import Idealize.ShloMosaic.Lib.ValueIdxCore
public import Idealize.ShloMosaic.Lib.ValueIdx
public import Idealize.ShloMosaic.Lib.MatmulPlain
public import Idealize.ShloMosaic.Lib.Pipeline.Value

@[expose] public section

noncomputable section

namespace Cert.KernelIdeal.Pick

open Cert.KernelIdeal Cert.KernelIdeal.Gen Cert.FirstMax Cert.Reals
open Idealize.ShloMosaic Idealize.ShloMosaic.ValueIdx

/-- A batch entry's row of scores. -/
def row (l : FVec Ideal S4x119 .f32) (b : Fin 4) : Fin 119 → EReal := fun c => l (ix2 b c)

/-- The index a reduction along the classes reads at batch entry `b` and class `c`. -/
theorem lift_eq (b : Fin 4) (c : Fin 119) : reduces_S4x119_S4.lift (ix1 b) c = ix2 b c := by
  funext a
  match a with
  | ⟨0, _⟩ => rfl
  | ⟨1, _⟩ => rfl

/-- A column read along the classes: the column's entry. -/
theorem spread_apply {α : Type} (x : S4.Idx → α) (b : Fin 4) (c : Fin 119) :
    broadcastTo S4x119 (shapeCast S4x1 x shapeCasts_S4_S4x1) broadcasts_S4x1_S4x119 (ix2 b c) = x (ix1 b) := by
  refine (broadcastTo_apply _ _ (ix2 b c) (ix2 b (0 : Fin 1)) fun a => ?_).trans
    (shapeCast_apply x _ (ix2 b (0 : Fin 1)) (ix1 b) ?_)
  · match a with
    | ⟨0, _⟩ => rfl
    | ⟨1, _⟩ => rfl
  · rw [Shape.rowMajor_val_one, Shape.rowMajor_val_two]; show b.val = b.val * 1 + 0; omega

/-- The largest score of each row. -/
def largest (l : FVec Ideal S4x119 .f32) : FVec Ideal S4 .f32 :=
  multiReduction .maximumf [1] S4 l 0xFF800000#32 reduces_S4x119_S4 (.inl rfl) rfl

/-- The largest score is the one at the first largest class. -/
theorem largest_apply {l : FVec Ideal S4x119 .f32} {b : Fin 4} {k : Fin 119} (hk : IsFirst (row l b) k) :
    largest l (ix1 b) = row l b k := by
  refine (Ideal.multiReduction_maximumf_single l _ reduces_S4x119_S4 _ _ (ix1 b)).trans ?_
  rw [← fold_max hk]
  show Finset.fold max (Ideal.ofBits .f32 0xFF800000#32) _ _ = _
  rw [ofBits_bot]
  exact congrArg (fun f => (Finset.univ : Finset (Fin 119)).fold max ⊥ f) (funext fun c => congrArg l (lift_eq b c))

/-- The class numbers. -/
def classes : IVec S4x119 32 := iota .tc S4x119 32 [1] iota_S4x119_d1_w32

/-- A class's number, as a word. -/
theorem classes_apply (b : Fin 4) (c : Fin 119) : classes (ix2 b c) = BitVec.ofNat 32 c.val :=
  iota_single_apply _ _ _ _ _ _

/-- The class numbers where a row's largest score is, the number of classes elsewhere. -/
def candidates (l : FVec Ideal S4x119 .f32) : IVec S4x119 32 :=
  select (cmpf .oeq l (broadcastTo S4x119 (shapeCast S4x1 (largest l) shapeCasts_S4_S4x1) broadcasts_S4x1_S4x119))
    classes (broadcast S4x119 119#32)

/-- The least candidate of each row. -/
def least (l : FVec Ideal S4x119 .f32) : IVec S4 32 :=
  multiReductionI .minsi [1] S4 (candidates l) 2147483647#32 reduces_S4x119_S4 rfl

/-- The least candidate is the first largest class. -/
theorem least_apply {l : FVec Ideal S4x119 .f32} {b : Fin 4} {k : Fin 119} (hk : IsFirst (row l b) k) :
    least l (ix1 b) = BitVec.ofNat 32 k.val := by
  refine (multiReductionI_eq_fold _ _ _ reduces_S4x119_S4 _ (ix1 b)).trans ?_
  rw [reduces_S4x119_S4.fold_filter_drop_single]
  refine fold_min (by norm_num) hk _ fun c => ?_
  show candidates l (reduces_S4x119_S4.lift (ix1 b) c) = _
  rw [lift_eq]
  show Scalar.select (Ideal.cmp .oeq (l (ix2 b c)) (broadcastTo S4x119 _ _ (ix2 b c))) (classes (ix2 b c)) 119#32 = _
  rw [spread_apply, largest_apply hk, classes_apply]
  unfold Scalar.select Ideal.cmp
  by_cases h : row l b c = row l b k
  · rw [if_pos h]
    have h' : l (ix2 b c) = row l b k := h
    simp [h']
  · rw [if_neg h]
    have h' : ¬ l (ix2 b c) = row l b k := h
    simp [h']

/-- The row marking the least candidate: one there, zero elsewhere. -/
def mark (l : FVec Ideal S4x119 .f32) : FVec Ideal S4x119 .f32 :=
  sitofp .f32 (extui 32 (cmpi .eq classes
    (broadcastTo S4x119 (shapeCast S4x1 (least l) shapeCasts_S4_S4x1) broadcasts_S4x1_S4x119)) natLt_1_32)

/-- The mark is one at the first largest class and zero elsewhere. -/
theorem mark_apply {l : FVec Ideal S4x119 .f32} {b : Fin 4} {k : Fin 119} (hk : IsFirst (row l b) k) (c : Fin 119) :
    mark l (ix2 b c) = if c = k then 1 else 0 := by
  show ((((IntOp.cmpi .eq (classes (ix2 b c)) (broadcastTo S4x119 _ _ (ix2 b c))).setWidth 32).toInt : ℝ) : EReal) = _
  rw [spread_apply, least_apply hk, classes_apply]
  by_cases h : c = k
  · subst h
    rw [if_pos rfl]
    simp [IntOp.cmpi]
  · have hne : BitVec.ofNat 32 c.val ≠ BitVec.ofNat 32 k.val := fun he => h (Fin.ext (by
      have := congrArg BitVec.toNat he
      have hc := c.isLt
      have hk' := k.isLt
      rwa [BitVec.toNat_ofNat, BitVec.toNat_ofNat, Nat.mod_eq_of_lt (by omega), Nat.mod_eq_of_lt (by omega)] at this))
    rw [if_neg h]
    have hb : (BitVec.ofNat 32 c.val == BitVec.ofNat 32 k.val) = false := beq_eq_false_iff_ne.mpr hne
    simp only [IntOp.cmpi, hb]
    simp

/-- The kernel's product of the mark by the table: the table's row at the first largest class. -/
theorem pick_apply {l : FVec Ideal S4x119 .f32} {b : Fin 4} {k : Fin 119} (hk : IsFirst (row l b) k)
    (t : FVec Ideal S119x128 .f32) (d : Fin 128) :
    matmul dot_S4x119_S119x128_S4x128_1_0_0_1_n_n (some .fp32) (mark l) t (constant S4x128 .f32 0x00000000#32) (ix2 b d)
      = t (ix2 k d) := by
  refine (Ideal.matmul_plain_apply (M := 4) (K := 119) (N := 128) (some .fp32) (mark l) t _ b d).trans ?_
  rw [constant_apply, Ideal.ofBits_zero_f32, zero_add, Finset.sum_eq_single k]
  · rw [mark_apply hk, if_pos rfl, one_mul]
  · intro c _ hc
    rw [mark_apply hk, if_neg hc, zero_mul]
  · exact fun h => absurd (Finset.mem_univ _) h

/-- What the kernel stores at batch entry `b`, any token and lane `d`: the table's row at the first class where the
    sum of its two score arrays is largest. -/
theorem stored_apply (p q : FVec Ideal S4x119 .f32) (t : FVec Ideal S119x128 .f32) {b : Fin 4} {k : Fin 119}
    (hk : IsFirst (row (addf p q) b) k) (r : Fin 256) (d : Fin 128) :
    k0_pay3 p q t (ix3 b r d) = t (ix2 k d) := by
  rw [← pick_apply hk t d]
  show shapeCast S4x256x128 (broadcastTo S4x256x128 (shapeCast S4x1x128 (shapeCast S4x1x128
    (matmul dot_S4x119_S119x128_S4x128_1_0_0_1_n_n (some .fp32) (mark (addf p q)) t (constant S4x128 .f32 0x00000000#32))
    shapeCasts_S4x128_S4x1x128) shapeCasts_S4x1x128_S4x1x128) broadcasts_S4x1x128_S4x256x128)
    shapeCasts_S4x256x128_S4x256x128 (ix3 b r d) = _
  refine (shapeCast_apply _ shapeCasts_S4x256x128_S4x256x128 (ix3 b r d) (ix3 b r d) rfl).trans ?_
  refine (broadcastTo_apply _ broadcasts_S4x1x128_S4x256x128 (ix3 b r d) (ix3 b (0 : Fin 1) d) fun a => ?_).trans ?_
  · match a with
    | ⟨0, _⟩ => rfl
    | ⟨1, _⟩ => rfl
    | ⟨2, _⟩ => rfl
  refine (shapeCast_apply _ shapeCasts_S4x1x128_S4x1x128 (ix3 b (0 : Fin 1) d) (ix3 b (0 : Fin 1) d) rfl).trans ?_
  refine (shapeCast_apply _ shapeCasts_S4x128_S4x1x128 (ix3 b (0 : Fin 1) d) (ix2 b d) ?_).trans rfl
  rw [Shape.rowMajor_val_two, Shape.rowMajor_val_three]
  show b.val * 128 + d.val = (b.val * 1 + 0) * 128 + d.val
  omega

end Cert.KernelIdeal.Pick

end
-- ==== Proof.KernelScores.lean ====
/-
  The kernel's scores, read at an entry: the formula of the two linear layers at the rows and weights its blocks hold.

  The kernel multiplies the four quarters of the row by the four row blocks of the first weights and adds the products.
-/
module

public import proofs.«01_k».proof.Proof.Layer
public import proofs.«01_k».proof.Proof.KernelPick
public import Idealize.ShloMosaic.Lib.IdealHost

@[expose] public section

noncomputable section

namespace Cert.KernelIdeal.Scores

open Cert.KernelIdeal Cert.KernelIdeal.Gen Cert.Reals Cert.Layer
open Idealize.ShloMosaic Idealize.ShloMosaic.ValueIdx

/-- One row, repeated: the row's entry. -/
theorem bias_apply {n : ℕ} (hn : n ≠ 1) (v : FVec Ideal ⟨2, ![1, n]⟩ .f32)
    (h₁ : (⟨2, ![1, n]⟩ : Shape).ShapeCasts ⟨2, ![1, n]⟩) (h₂ : (⟨2, ![1, n]⟩ : Shape).Broadcasts ⟨2, ![4, n]⟩)
    (b : Fin 4) (c : Fin n) :
    broadcastTo ⟨2, ![4, n]⟩ (shapeCast ⟨2, ![1, n]⟩ v h₁) h₂ (ix2 b c) = v (ix2 (0 : Fin 1) c) := by
  refine (broadcastTo_apply _ _ (ix2 b c) (ix2 (0 : Fin 1) c) fun a => ?_).trans
    (shapeCast_apply _ _ (ix2 (0 : Fin 1) c) (ix2 (0 : Fin 1) c) rfl)
  match a with
  | ⟨0, _⟩ => rfl
  | ⟨1, _⟩ => exact (if_neg hn).symm

/-- A quarter of the rows from feature `o` on, read at batch entry and place. -/
theorem quarter_apply (x : Vec Ideal S4x1x1024 .f32) (o : ℕ) (h : S4x1024.Slices ![0, o] S4x256) (b : Fin 4) (k : Fin 256)
    (ho : o + k.val < 1024) :
    extractStridedSlice S4x256 ![0, o] (shapeCast S4x1024 x shapeCasts_S4x1x1024_S4x1024) h (ix2 b k)
      = x (ix3 b (0 : Fin 1) ⟨o + k.val, ho⟩) := by
  refine (extractStridedSlice_apply _ _ h (ix2 b k) (ix2 b ⟨o + k.val, ho⟩) fun a => ?_).trans
    (shapeCast_apply _ _ _ (ix3 b (0 : Fin 1) ⟨o + k.val, ho⟩) ?_)
  · match a with
    | ⟨0, _⟩ => show b.val = 0 + b.val; omega
    | ⟨1, _⟩ => rfl
  · rw [Shape.rowMajor_val_two, Shape.rowMajor_val_three]
    show (b.val * 1 + 0) * 1024 + (o + k.val) = b.val * 1024 + (o + k.val)
    omega

/-- A quarter's product with its block of the first weights. -/
def part (x : Vec Ideal S4x1x1024 .f32) (o : ℕ) (h : S4x1024.Slices ![0, o] S4x256) (w : Vec Ideal S256x512 .f32) :
    FVec Ideal S4x512 .f32 :=
  matmul (F := Ideal) (φ₁ := .f32) (φ₂ := .f32) dot_S4x256_S256x512_S4x512_1_0_0_1_n_n none
    (extractStridedSlice S4x256 ![0, o] (shapeCast S4x1024 x shapeCasts_S4x1x1024_S4x1024) h) w
    (constant S4x512 .f32 0x00000000#32)

/-- Read at an entry, it is the sum over the quarter. -/
theorem part_apply (x : Vec Ideal S4x1x1024 .f32) (o : ℕ) (h : S4x1024.Slices ![0, o] S4x256) (w : Vec Ideal S256x512 .f32)
    (ho : o + 256 ≤ 1024) (b : Fin 4) (j : Fin 512) :
    part x o h w (ix2 b j) = ∑ k : Fin 256, x (ix3 b (0 : Fin 1) ⟨o + k.val, by omega⟩) * w (ix2 k j) := by
  refine (Ideal.matmul_plain_apply (M := 4) (K := 256) (N := 512) none _ w _ b j).trans ?_
  rw [constant_apply, Ideal.ofBits_zero_f32, zero_add]
  exact Finset.sum_congr rfl fun k _ => congrArg (· * w (ix2 k j)) (quarter_apply x o h b k (by omega))

/-- The kernel's hidden layer before its activation. -/
def hidden (x : Vec Ideal S4x1x1024 .f32) (w0 w1 w2 w3 : Vec Ideal S256x512 .f32) (v : Vec Ideal S1x512 .f32) :
    FVec Ideal S4x512 .f32 :=
  addf (addf (addf (addf (part x 0 slices_S4x1024_o0_0_S4x256 w0) (part x 256 slices_S4x1024_o0_256_S4x256 w1))
      (part x 512 slices_S4x1024_o0_512_S4x256 w2)) (part x 768 slices_S4x1024_o0_768_S4x256 w3))
    (broadcastTo S4x512 (shapeCast S1x512 v shapeCasts_S1x512_S1x512) broadcasts_S1x512_S4x512)

/-- The blocks hold a row, the first weights by quarters, and the first bias. -/
structure Holds (b : Fin 4) (x : Vec Ideal S4x1x1024 .f32) (w0 w1 w2 w3 : Vec Ideal S256x512 .f32)
    (v : Vec Ideal S1x512 .f32) (X : Fin 1024 → EReal) (W : Fin 1024 → Fin 512 → EReal) (B : Fin 512 → EReal) : Prop where
  row : ∀ k, x (ix3 b (0 : Fin 1) k) = X k
  first : ∀ (k : Fin 256) j, w0 (ix2 k j) = W ⟨k.val, by omega⟩ j
  second : ∀ (k : Fin 256) j, w1 (ix2 k j) = W ⟨256 + k.val, by omega⟩ j
  third : ∀ (k : Fin 256) j, w2 (ix2 k j) = W ⟨512 + k.val, by omega⟩ j
  fourth : ∀ (k : Fin 256) j, w3 (ix2 k j) = W ⟨768 + k.val, by omega⟩ j
  bias : ∀ j, v (ix2 (0 : Fin 1) j) = B j

variable {b : Fin 4} {x : Vec Ideal S4x1x1024 .f32} {w0 w1 w2 w3 : Vec Ideal S256x512 .f32}
  {v : Vec Ideal S1x512 .f32} {X : Fin 1024 → EReal} {W : Fin 1024 → Fin 512 → EReal} {B : Fin 512 → EReal}

/-- Then the kernel's hidden layer is the formula's. -/
theorem hidden_apply (h : Holds b x w0 w1 w2 w3 v X W B) (j : Fin 512) :
    Scores.hidden x w0 w1 w2 w3 v (ix2 b j) = unit X W B j := by
  unfold Scores.hidden unit
  rw [addf_apply, bias_apply (by norm_num), h.bias, ← sum_quarters]
  refine congrArg (· + B j) ?_
  rw [addf_apply, addf_apply, addf_apply, part_apply _ _ _ _ (by norm_num), part_apply _ _ _ _ (by norm_num),
    part_apply _ _ _ _ (by norm_num), part_apply _ _ _ _ (by norm_num)]
  simp only [h.row, h.first, h.second, h.third, h.fourth]
  refine congrArg (· + _ + _ + _) (Finset.sum_congr rfl fun k _ => ?_)
  exact congrArg (fun q => X q * W ⟨k.val, by omega⟩ j) (Fin.ext (Nat.zero_add _))

/-- The kernel's activated hidden layer. -/
def active (h : FVec Ideal S4x512 .f32) : FVec Ideal S4x512 .f32 :=
  mulf (mulf h (broadcast S4x512 (FloatOps.ofBits .f32 0x3F000000#32)))
    (addf (broadcast S4x512 (FloatOps.ofBits .f32 0x3F800000#32))
      (erf (mulf h (broadcast S4x512 (FloatOps.ofBits .f32 0x3F3504F3#32)))))

/-- The activation, entry by entry. -/
theorem active_apply (h : FVec Ideal S4x512 .f32) (i : S4x512.Idx) : active h i = act (h i) := by
  show h i * Ideal.ofBits .f32 0x3F000000#32
    * (Ideal.ofBits .f32 0x3F800000#32 + Ideal.erf (h i * Ideal.ofBits .f32 0x3F3504F3#32)) = _
  rw [Ideal.ofBits_one_f32, mul_comm (h i) (Ideal.ofBits .f32 0x3F000000#32)]
  rfl

/-- The kernel's scores: the formula of the two layers. -/
theorem scores_apply (h : Holds b x w0 w1 w2 w3 v X W B) (u : Vec Ideal S512x119 .f32) (e : Vec Ideal S1x119 .f32)
    (c : Fin 119) : addf (k0_pay1 x w0 w1 w2 w3 v u) (k0_pay2 e) (ix2 b c)
      = score X W B (fun j c => u (ix2 j c)) (fun c => e (ix2 (0 : Fin 1) c)) c := by
  show matmul (F := Ideal) (φ₁ := .f32) (φ₂ := .f32) dot_S4x512_S512x119_S4x119_1_0_0_1_n_n (some .fp32)
      (active (Scores.hidden x w0 w1 w2 w3 v)) u (constant S4x119 .f32 0x00000000#32) (ix2 b c)
    + broadcastTo S4x119 (shapeCast S1x119 e shapeCasts_S1x119_S1x119) broadcasts_S1x119_S4x119 (ix2 b c) = _
  rw [bias_apply (by norm_num)]
  refine congrArg (· + e (ix2 (0 : Fin 1) c)) ?_
  refine (Ideal.matmul_plain_apply (M := 4) (K := 512) (N := 119) (some .fp32) _ u _ b c).trans ?_
  rw [constant_apply, Ideal.ofBits_zero_f32, zero_add]
  refine Finset.sum_congr rfl fun j _ => ?_
  rw [active_apply, hidden_apply h]

end Cert.KernelIdeal.Scores

end
-- ==== Proof.KernelBlocks.lean ====
/-
  The blocks the kernel's windows read, entry by entry, as the kernel's arguments.
-/
module

public import proofs.«01_k».proof.Proof.KernelIdealFrame
public import proofs.«01_k».proof.Proof.KernelScores
public import Idealize.ShloMosaic.Lib.Pipeline.ValueKit.Geometry

@[expose] public section

noncomputable section

namespace Cert.KernelIdeal.Blocks

open Cert.KernelIdeal Cert.KernelIdeal.Gen Cert.KernelIdeal.Run
open Idealize.ShloMosaic Idealize.ShloMosaic.TcCoe Idealize.ShloMosaic.ValueIdx

variable (m : (ℓ : Loc nD τ sig) → Buf (Elt Ideal) ℓ) (c : Dev nD)

/-! ## The kernel's arguments on core `c`, as arrays -/

/-- The hidden states. -/
abbrev states : FVec Ideal S4x4096x1024 .f32 := m ((c.tc : Thread nD τ).loc main_arg0)
/-- The table of embeddings. -/
abbrev table : FVec Ideal S119x128 .f32 := m ((c.tc : Thread nD τ).loc main_arg1)
/-- The first layer's weights. -/
abbrev weights₁ : FVec Ideal S1024x512 .f32 := m ((c.tc : Thread nD τ).loc main_arg2)
/-- The first layer's bias. -/
abbrev bias₁ : FVec Ideal S512 .f32 := m ((c.tc : Thread nD τ).loc main_arg3)
/-- The second layer's weights. -/
abbrev weights₂ : FVec Ideal S512x119 .f32 := m ((c.tc : Thread nD τ).loc main_arg4)
/-- The second layer's bias. -/
abbrev bias₂ : FVec Ideal S119 .f32 := m ((c.tc : Thread nD τ).loc main_arg5)

/-! ## What the windows read -/

/-- The first bias, laid out as a single row before the launch. -/
theorem V_bias₁ (j : Fin 512) : (V m c main_v0 : FVec Ideal S1x512 .f32) (ix2 (0 : Fin 1) j) = bias₁ m c (ix1 j) := by
  have h : (V m c main_v0 : FVec Ideal S1x512 .f32) = shapeCast S1x512 (bias₁ m c) (by decide) := by
    show StableHlo.after hostOps0 (fun b => m (c, b)) (Proc.devRef .tc main_v0) = _
    after_results
    rfl
  rw [h]
  refine shapeCast_apply _ _ _ _ ?_
  rw [Shape.rowMajor_val_one, Shape.rowMajor_val_two]
  show j.val = 0 * 512 + j.val
  omega

/-- The second bias, laid out as a single row before the launch. -/
theorem V_bias₂ (k : Fin 119) : (V m c main_v1 : FVec Ideal S1x119 .f32) (ix2 (0 : Fin 1) k) = bias₂ m c (ix1 k) := by
  have h : (V m c main_v1 : FVec Ideal S1x119 .f32) = shapeCast S1x119 (bias₂ m c) (by decide) := by
    show StableHlo.after hostOps0 (fun b => m (c, b)) (Proc.devRef .tc main_v1) = _
    after_results
    rfl
  rw [h]
  refine shapeCast_apply _ _ _ _ ?_
  rw [Shape.rowMajor_val_one, Shape.rowMajor_val_two]
  show k.val = 0 * 119 + k.val
  omega

/-- The eighth row of the block of states is the last token's. -/
theorem states_block (b : Fin 4) (k : Fin 1024) :
    iblk m c 0 t0_0 ((Rect.unit (s := S4x8x1024) ![0, 7, 0] S4x1x1024.size inb_S4x8x1024_S4x1x1024_0_7_0).toLoadRect.idx
        (ix3 b (0 : Fin 1) k))
      = states m c (ix3 b (4095 : Fin 4096) k) := by
  show V m c main_arg0 (((cfg0.win 0).blk t0_0).view.emb _) = _
  refine (congrFun (V_main_arg0 m c) _).trans (congrArg _ ?_)
  funext a
  apply Fin.ext
  match a with
  | ⟨0, _⟩ => show 0 * 4 + 1 * (0 + 1 * b.val) = b.val; omega
  | ⟨1, _⟩ => rfl
  | ⟨2, _⟩ => show 0 * 1024 + 1 * (0 + 1 * k.val) = k.val; omega

/-- The table's block is the whole table. -/
theorem table_block (i : S119x128.Idx) : iblk m c 1 t0_0 i = table m c i := by
  show V m c main_arg1 (((cfg0.win 1).blk t0_0).view.emb i) = _
  refine (congrFun (V_main_arg1 m c) _).trans (congrArg _ ?_)
  funext a
  apply Fin.ext
  match a with
  | ⟨0, _⟩ => show 0 * 119 + 1 * (i 0).val = (i 0).val; omega
  | ⟨1, _⟩ => show 0 * 128 + 1 * (i 1).val = (i 1).val; omega

/-- The second weights' block is all of them. -/
theorem weights₂_block (i : S512x119.Idx) : iblk m c 7 t0_0 i = weights₂ m c i := by
  show V m c main_arg4 (((cfg0.win 7).blk t0_0).view.emb i) = _
  refine (congrFun (V_main_arg4 m c) _).trans (congrArg _ ?_)
  funext a
  apply Fin.ext
  match a with
  | ⟨0, _⟩ => show 0 * 512 + 1 * (i 0).val = (i 0).val; omega
  | ⟨1, _⟩ => show 0 * 119 + 1 * (i 1).val = (i 1).val; omega

/-- The first bias's block is all of it. -/
theorem bias₁_block (j : Fin 512) : iblk m c 6 t0_0 (ix2 (0 : Fin 1) j) = bias₁ m c (ix1 j) := by
  show V m c main_v0 (((cfg0.win 6).blk t0_0).view.emb _) = _
  refine (congrArg (V m c main_v0) ?_).trans (V_bias₁ m c j)
  funext a
  apply Fin.ext
  match a with
  | ⟨0, _⟩ => rfl
  | ⟨1, _⟩ => show 0 * 512 + 1 * j.val = j.val; omega

/-- The second bias's block is all of it. -/
theorem bias₂_block (k : Fin 119) : iblk m c 8 t0_0 (ix2 (0 : Fin 1) k) = bias₂ m c (ix1 k) := by
  show V m c main_v1 (((cfg0.win 8).blk t0_0).view.emb _) = _
  refine (congrArg (V m c main_v1) ?_).trans (V_bias₂ m c k)
  funext a
  apply Fin.ext
  match a with
  | ⟨0, _⟩ => rfl
  | ⟨1, _⟩ => show 0 * 119 + 1 * k.val = k.val; omega

/-- A place of the first weights, reached from a row block's place with the block's first row added. -/
theorem weights₁_place (o : ℕ) (k : Fin 256) (j : Fin 512) (ho : o + k.val < 1024) (i : S1024x512.Idx)
    (h₀ : (i 0).val = o + 1 * k.val) (h₁ : (i 1).val = 0 * 512 + 1 * j.val) :
    V m c main_arg2 i = weights₁ m c (ix2 ⟨o + k.val, ho⟩ j) := by
  refine (congrFun (V_main_arg2 m c) _).trans (congrArg _ ?_)
  funext a
  apply Fin.ext
  match a with
  | ⟨0, _⟩ => show (i 0).val = o + k.val; omega
  | ⟨1, _⟩ => show (i 1).val = j.val; omega

/-- The blocks hold the last token's row of batch entry `b`, the first weights and the first bias. -/
theorem holds (b : Fin 4) :
    Scores.Holds b
      (fun x => iblk m c 0 t0_0
        ((Rect.unit (s := S4x8x1024) ![0, 7, 0] S4x1x1024.size inb_S4x8x1024_S4x1x1024_0_7_0).toLoadRect.idx x))
      (iblk m c 2 t0_0) (iblk m c 3 t0_0) (iblk m c 4 t0_0) (iblk m c 5 t0_0) (iblk m c 6 t0_0)
      (fun k => states m c (ix3 b (4095 : Fin 4096) k)) (fun k j => weights₁ m c (ix2 k j)) (fun j => bias₁ m c (ix1 j)) where
  row k := states_block m c b k
  first k j := (weights₁_place m c 0 k j (by omega) _ rfl rfl).trans (congrArg (fun r => weights₁ m c (ix2 r j)) (Fin.ext (Nat.zero_add _)))
  second k j := weights₁_place m c 256 k j (by omega) _ rfl rfl
  third k j := weights₁_place m c 512 k j (by omega) _ rfl rfl
  fourth k j := weights₁_place m c 768 k j (by omega) _ rfl rfl
  bias j := bias₁_block m c j

end Cert.KernelIdeal.Blocks

end
-- ==== Proof.ReferencePick.lean ====
/-
  What the reference computes, from its scores on: each batch entry's row of the table at the first largest score.

  * `softmax_apply` — the softmax of a row, as `Reals.chance`;
  * `winner_apply` — the argmax of a row is its first largest place;
  * `lookup_apply` — the table read at an index inside it;
  * `picked_apply` — the three together: on rows of real scores, the table's row at the first largest score.
-/
module

public import proofs.«01_k».proof.Proof.FirstMax
public import proofs.«01_k».proof.Proof.Reals
public import proofs.«01_k».proof.Proof.ReferenceRun
public import Idealize.ShloMosaic.Lib.ValueIdxCore
public import Idealize.ShloMosaic.Lib.ValueIdx
public import Idealize.ShloMosaic.Lib.Pipeline.Value

@[expose] public section

noncomputable section

namespace Cert.ReferenceIdeal.Pick

open Cert.ReferenceIdeal Cert.ReferenceIdeal.Gen Cert.ReferenceIdeal.Run Cert.FirstMax Cert.Reals
open Idealize.ShloMosaic Idealize.ShloMosaic.ValueIdx

/-- A batch entry's row of an array over the classes. -/
def row (l : FVec Ideal S4x119 .f32) (b : Fin 4) : Fin 119 → EReal := fun c => l (ix2 b c)

/-- The class axis reduces away. -/
theorem reduces : S4x119.Reduces [1] S4 := by decide

/-- The index a reduction along the classes reads at batch entry `b` and class `c`. -/
theorem lift_eq (b : Fin 4) (c : Fin 119) : reduces.lift (ix1 b) c = ix2 b c := by
  funext a
  match a with
  | ⟨0, _⟩ => rfl
  | ⟨1, _⟩ => rfl

/-- A number per batch entry, repeated along the classes. -/
theorem spread_apply {α : Type} (x : S4.Idx → α) (b : Fin 4) (c : Fin 119) :
    broadcastInDim S4x119 ![0, 1] bcast_S4x1_S4x119_0_1 (broadcastInDim S4x1 ![0] bcast_S4_S4x1_0 x) (ix2 b c) = x (ix1 b) := by
  refine (broadcastInDim_apply _ _ _ (ix2 b c) (ix2 b (0 : Fin 1)) fun a => ?_).trans
    (broadcastInDim_apply _ _ _ (ix2 b (0 : Fin 1)) (ix1 b) fun a => ?_)
  · match a with
    | ⟨0, _⟩ => rfl
    | ⟨1, _⟩ => rfl
  · match a with
    | ⟨0, _⟩ => rfl

/-- The largest entry of a row. -/
theorem max_apply (l : FVec Ideal S4x119 .f32) (b : Fin 4) :
    maximumf (broadcastInDim S4 ![] bcast_S_S4 (constant S_ .f32 0xFF800000#32))
      (Host.reduce FloatOps.maximumf l (constant S_ .f32 0xFF800000#32) reducesTo_S4x119_S4_d1 h_S_) (ix1 b)
      = max ⊥ ((Finset.univ : Finset (Fin 119)).fold max ⊥ (row l b)) := by
  show max (Ideal.ofBits .f32 0xFF800000#32) (Host.reduce (FloatOps.maximumf (F := Ideal) (φ := .f32)) l _ _ _ (ix1 b)) = _
  rw [Host.reduce_eq_fold_single _ l _ reducesTo_S4x119_S4_d1 reduces h_S_ (ix1 b), ofBits_bot]
  show max ⊥ (Finset.fold max (Ideal.ofBits .f32 0xFF800000#32) _ _) = _
  rw [ofBits_bot]
  exact congrArg (fun f => max ⊥ ((Finset.univ : Finset (Fin 119)).fold max ⊥ f)) (funext fun c => congrArg l (lift_eq b c))

/-- The exponentials of a row. -/
theorem powers_apply (l : FVec Ideal S4x119 .f32) (b : Fin 4) (c : Fin 119) :
    powers l (ix2 b c) = power (row l b) c := by
  show Ideal.exp (l (ix2 b c) - broadcastInDim (s := S4x1) S4x119 ![0, 1] bcast_S4x1_S4x119_0_1 _ (ix2 b c)) = _
  rw [spread_apply, max_apply]
  rfl

/-- The softmax of a row. -/
theorem softmax_apply (l : FVec Ideal S4x119 .f32) (b : Fin 4) (c : Fin 119) :
    chances (powers l) (ix2 b c) = chance (row l b) c := by
  show Ideal.div (powers l (ix2 b c)) (broadcastInDim (s := S4x1) S4x119 ![0, 1] bcast_S4x1_S4x119_0_1 _ (ix2 b c)) = _
  rw [spread_apply, powers_apply, chance]
  congr 1
  refine (Ideal.hostReduceAdd_single reducesTo_S4x119_S4_d1 reduces (powers l) _ (ix1 b)).trans ?_
  show Ideal.ofBits .f32 0x00000000#32 + _ = _
  rw [Ideal.ofBits_zero_f32]
  refine congrArg (0 + ·) (Finset.sum_congr rfl fun c _ => ?_)
  exact (congrArg (powers l) (lift_eq b c)).trans (powers_apply l b c)

/-- The argmax's step keeps the better of its two pairs: the larger value, at equal values the smaller place. -/
theorem reducer_eq (a b : EReal × BitVec 32) : reducer_argmax_f32_i32 (F := Ideal) a b
    = if b.1 < a.1 ∨ (a.1 = b.1 ∧ a.2.toInt < b.2.toInt) then a else b := by
  obtain ⟨x, i⟩ := a
  obtain ⟨y, j⟩ := b
  by_cases h : y < x
  · simp [reducer_argmax_f32_i32, Ideal.cmpf_def, Ideal.cmp, h, IntOp.ori, IntOp.andi, Scalar.select, h.ne']
  · by_cases e : x = y
    · subst e
      by_cases s : i.slt j = true
      · have s' := BitVec.slt_iff_toInt_lt.mp s
        simp [reducer_argmax_f32_i32, Ideal.cmpf_def, Ideal.cmp, IntOp.ori, IntOp.andi, IntOp.cmpi, Scalar.select, s, s']
      · have s' : ¬ i.toInt < j.toInt := fun hc => s (BitVec.slt_iff_toInt_lt.mpr hc)
        simp [reducer_argmax_f32_i32, Ideal.cmpf_def, Ideal.cmp, IntOp.ori, IntOp.andi, IntOp.cmpi, Scalar.select, s, s']
    · simp [reducer_argmax_f32_i32, Ideal.cmpf_def, Ideal.cmp, h, e, IntOp.ori, IntOp.andi, Scalar.select]

/-- So it is a step that keeps the better pair. -/
theorem reducer_keeps : Keeps (reducer_argmax_f32_i32 (F := Ideal)) := fun a b => by
  rw [reducer_eq]
  by_cases h : b.1 < a.1 ∨ (a.1 = b.1 ∧ a.2.toInt < b.2.toInt)
  · rw [if_pos h]
    exact ⟨.inl rfl, .refl a, h.imp id fun h => ⟨h.1, h.2.le⟩⟩
  · rw [if_neg h]
    refine ⟨.inr rfl, ?_, .refl b⟩
    rcases lt_trichotomy a.1 b.1 with hl | he | hg
    · exact .inl hl
    · exact .inr ⟨he.symm, not_lt.mp fun hc => h (.inr ⟨he, hc⟩)⟩
    · exact absurd (.inl hg) h

/-- The argmax of a row whose first largest entry, at `k`, is above minus infinity is `k`. -/
theorem winner_apply (p : FVec Ideal S4x119 .f32) {b : Fin 4} {k : Fin 119} (hk : IsFirst (row p b) k)
    (hb : ⊥ < row p b k) : winner p (ix1 b) = BitVec.ofNat 32 k.val := by
  unfold winner
  rw [Ideal.argReduce_eq_reduce2, Host.reduce2_eq_foldl_fiber]
  have h0 : ((constant S_ .f32 0xFF800000#32 : FVec Ideal S_ .f32) (Shape.Idx.first h_S_),
      constantI S_ 32 0#32 (Shape.Idx.first h_S_)) = ((⊥ : EReal), 0#32) := Prod.ext ofBits_bot rfl
  rw [h0]
  refine foldl_pick reducer_keeps (by norm_num) hk hb _ fun q => ?_
  unfold Host.argReduceFiber
  rw [List.mem_map]
  constructor
  · rintro ⟨m, hm, rfl⟩
    have hd := of_decide_eq_true (List.mem_filter.mp hm).2
    rw [reducesTo_S4x119_S4_d1.drop_eq_drop reduces] at hd
    generalize S4x119.rowMajor.symm m = i at hd ⊢
    have hi := (reduces.lift_drop i).symm
    rw [hd] at hi
    refine ⟨i 1, ?_⟩
    have hi' : i = ix2 b (i 1) := hi.trans (lift_eq b (i 1))
    exact Prod.ext (congrArg p hi') rfl
  · rintro ⟨c, rfl⟩
    refine ⟨S4x119.rowMajor (ix2 b c), List.mem_filter.mpr ⟨List.mem_finRange _, ?_⟩, ?_⟩
    · rw [Equiv.symm_apply_apply, reducesTo_S4x119_S4_d1.drop_eq_drop reduces]
      exact decide_eq_true ((congrArg reduces.drop (lift_eq b c).symm).trans (reduces.drop_lift (ix1 b) c))
    · rw [Equiv.symm_apply_apply]; rfl

/-- An index inside the table is not moved by the wrap. -/
theorem wrapped_apply (i : IVec S4 32) {b : Fin 4} {k : Fin 119} (hk : i (ix1 b) = BitVec.ofNat 32 k.val) :
    wrapped i (ix2 b (0 : Fin 1)) = BitVec.ofNat 32 k.val := by
  refine (broadcastInDim_apply _ _ _ (ix2 b (0 : Fin 1)) (ix1 b) fun a => ?_).trans ?_
  · match a with
    | ⟨0, _⟩ => rfl
  · show Scalar.select (IntOp.cmpi .slt (i (ix1 b)) 0#32) _ (i (ix1 b)) = _
    have hn : (BitVec.ofNat 32 k.val).slt 0#32 = false := by
      have hk' := k.isLt
      rw [Bool.eq_false_iff, ne_eq, BitVec.slt_iff_toInt_lt, toInt_ofNat (by omega)]
      simp
    rw [hk]
    simp [Scalar.select, IntOp.cmpi, hn]

/-- The table's rows at the given indices, each moved into the table. -/
theorem gather_apply (t : FVec Ideal S119x128 .f32) (i : IVec S4x1 32) (b : Fin 4) (d : Fin 128) :
    Host.gather gather_S119x128_S4x1_S4x128_1_0_n_n_0_1_1128 t i (ix2 b d)
      = t (ix2 ⟨min (i (ix2 b (0 : Fin 1))).toInt.toNat 118, by omega⟩ d) := by
  unfold Host.gather
  congr 1
  funext a
  refine Fin.ext ?_
  show GatherDims.start _ (ix2 b d) i a + GatherDims.batchCoord _ (ix2 b d) a + GatherDims.offCoord _ (ix2 b d) a = _
  rw [GatherDims.batchCoord_eq_zero _ _ _ List.not_mem_nil, Nat.add_zero]
  have h01 : a = 0 ∨ a = 1 := by
    match a with
    | ⟨0, _⟩ => exact .inl rfl
    | ⟨1, _⟩ => exact .inr rfl
  rcases h01 with rfl | rfl
  · rw [GatherDims.offCoord_eq_zero _ _ _
      (fun h => ((GatherDims.mem_sKept _ _).mp h).1 (List.mem_singleton.mpr rfl)), Nat.add_zero]
    unfold GatherDims.start
    rw [dif_pos (show (0 : Fin 2) ∈ gather_S119x128_S4x1_S4x128_1_0_n_n_0_1_1128.startIndexMap from List.mem_singleton.mpr rfl)]
    have hs : gather_S119x128_S4x1_S4x128_1_0_n_n_0_1_1128.siIdx (ix2 b d)
        ⟨List.idxOf (0 : Fin 2) [0], List.idxOf_lt_length_iff.2 (List.mem_singleton.mpr rfl)⟩ = ix2 b (0 : Fin 1) := by
      funext e
      match e with
      | ⟨0, _⟩ => rfl
      | ⟨1, _⟩ => rfl
    exact congrArg (fun x => min (i x).toInt.toNat 118) hs
  · unfold GatherDims.start
    rw [dif_neg (show ¬ (1 : Fin 2) ∈ gather_S119x128_S4x1_S4x128_1_0_n_n_0_1_1128.startIndexMap by decide), Nat.zero_add]
    rfl

/-- The conjunction of a column of one flag is that flag. -/
theorem all_apply (f : IVec S4x1 1) {b : Fin 4} (hf : f (ix2 b (0 : Fin 1)) = 1#1) :
    Host.reduce IntOp.andi f (constantI S_ 1 1#1) reducesTo_S4x1_S4_d1 h_S_ (ix1 b) = 1#1 := by
  have hred : S4x1.Reduces [1] S4 := by decide
  rw [Host.reduce_eq_fold_single IntOp.andi f _ reducesTo_S4x1_S4_d1 hred h_S_ (ix1 b)]
  have hr : hred.lift (ix1 b) (0 : Fin 1) = ix2 b (0 : Fin 1) := by
    funext a
    match a with
    | ⟨0, _⟩ => rfl
    | ⟨1, _⟩ => rfl
  refine (Finset.fold_singleton (a := (0 : Fin 1))).trans ?_
  show IntOp.andi (f (hred.lift (ix1 b) (0 : Fin 1))) 1#1 = _
  rw [hr, hf]
  rfl

/-- The table read at an index inside it: that row. -/
theorem lookup_apply (t : FVec Ideal S119x128 .f32) (i : IVec S4x1 32) {b : Fin 4} {k : Fin 119}
    (hk : i (ix2 b (0 : Fin 1)) = BitVec.ofNat 32 k.val) (d : Fin 128) : lookup t i (ix2 b d) = t (ix2 k d) := by
  have hk' := k.isLt
  have ht : (BitVec.ofNat 32 k.val).toInt = k.val := toInt_ofNat (by omega)
  have hlo : (0#32 : BitVec 32).sle (BitVec.ofNat 32 k.val) = true := by
    rw [BitVec.sle_iff_toInt_le, ht]; simp
  have hhi : (BitVec.ofNat 32 k.val).sle 118#32 = true := by
    rw [BitVec.sle_iff_toInt_le, ht, toInt_ofNat (i := 118) (by norm_num)]; omega
  show Scalar.select (broadcastInDim (s := S4) S4x128 ![0] bcast_S4_S4x128_0 _ (ix2 b d)) (Host.gather _ t i (ix2 b d)) _ = _
  rw [gather_apply, broadcastInDim_apply ![0] bcast_S4_S4x128_0 _ (ix2 b d) (ix1 b) (fun a => by
    match a with
    | ⟨0, _⟩ => rfl), all_apply]
  · rw [select_one]
    refine congrArg (fun q => t (ix2 q d)) (Fin.ext ?_)
    show min (i (ix2 b (0 : Fin 1))).toInt.toNat 118 = k.val
    rw [hk, ht, Int.toNat_natCast]; omega
  · show IntOp.andi (IntOp.cmpi .sge (i (ix2 b (0 : Fin 1))) 0#32) (IntOp.cmpi .sle (i (ix2 b (0 : Fin 1))) 118#32) = 1#1
    rw [hk]
    simp only [IntOp.cmpi, hlo, hhi]
    rfl

/-- On rows of real scores, the reference's row of the table is the one at the first largest score. -/
theorem picked_apply (l : FVec Ideal S4x119 .f32) (t : FVec Ideal S119x128 .f32) {b : Fin 4} {k : Fin 119}
    (hl : ∀ c, IsReal (row l b c)) (hk : IsFirst (row l b) k) (d : Fin 128) :
    lookup t (wrapped (winner (chances (powers l)))) (ix2 b d) = t (ix2 k d) := by
  have hr : row (chances (powers l)) b = chance (row l b) := funext fun c => softmax_apply l b c
  refine lookup_apply t _ (wrapped_apply _ (winner_apply _ ?_ ?_)) d
  · rw [hr]; exact hk.of_order (chance_order hl hk)
  · rw [hr]; exact bot_lt_chance hl hk k

end Cert.ReferenceIdeal.Pick

end
-- ==== Proof.ReferenceScores.lean ====
/-
  The reference's scores, read at an entry: the formula of the two linear layers at the last token's row.
-/
module

public import proofs.«01_k».proof.Proof.Layer
public import proofs.«01_k».proof.Proof.ReferencePick
public import Idealize.ShloMosaic.Lib.StackMember

@[expose] public section

noncomputable section

namespace Cert.ReferenceIdeal.Scores

open Cert.ReferenceIdeal Cert.ReferenceIdeal.Gen Cert.ReferenceIdeal.Run Cert.Reals Cert.Layer
open Idealize.ShloMosaic Idealize.ShloMosaic.ValueIdx

/-- A vector as one row, repeated: the vector's entry. -/
theorem bias_apply {n : ℕ} (hn : n ≠ 1) (v : FVec Ideal ⟨1, ![n]⟩ .f32)
    (h₁ : (⟨1, ![n]⟩ : Shape).BroadcastsInDim ⟨2, ![1, n]⟩ ![1])
    (h₂ : (⟨2, ![1, n]⟩ : Shape).BroadcastsInDim ⟨2, ![4, n]⟩ ![0, 1]) (b : Fin 4) (c : Fin n) :
    broadcastInDim ⟨2, ![4, n]⟩ ![0, 1] h₂ (broadcastInDim ⟨2, ![1, n]⟩ ![1] h₁ v) (ix2 b c) = v (ix1 c) := by
  refine (broadcastInDim_apply _ _ _ (ix2 b c) (ix2 (0 : Fin 1) c) fun a => ?_).trans
    (broadcastInDim_apply _ _ _ (ix2 (0 : Fin 1) c) (ix1 c) fun a => ?_)
  · match a with
    | ⟨0, _⟩ => rfl
    | ⟨1, _⟩ => exact (if_neg hn).symm
  · match a with
    | ⟨0, _⟩ => exact (if_neg hn).symm

/-- The last token's rows, read at batch entry and feature. -/
theorem last_apply (x : FVec Ideal S4x4096x1024 .f32) (b : Fin 4) (k : Fin 1024) :
    shapeCast S4x1024 (extractStridedSlice S4x1x1024 ![0, 4095, 0] x slices_S4x4096x1024_S4x1x1024_0_4095_0)
      shapeCasts_S4x1x1024_S4x1024 (ix2 b k) = x (ix3 b (4095 : Fin 4096) k) := by
  refine (shapeCast_apply _ _ (ix2 b k) (ix3 b (0 : Fin 1) k) ?_).trans
    (extractStridedSlice_apply _ x _ (ix3 b (0 : Fin 1) k) (ix3 b (4095 : Fin 4096) k) fun a => ?_)
  · rw [Shape.rowMajor_val_two, Shape.rowMajor_val_three]
    show (b.val * 1 + 0) * 1024 + k.val = b.val * 1024 + k.val
    omega
  · match a with
    | ⟨0, _⟩ => show b.val = 0 + b.val; omega
    | ⟨1, _⟩ => rfl
    | ⟨2, _⟩ => show k.val = 0 + k.val; omega

/-- The hidden layer before its activation. -/
theorem hidden_apply (x : FVec Ideal S4x4096x1024 .f32) (w : FVec Ideal S1024x512 .f32) (v : FVec Ideal S512 .f32)
    (b : Fin 4) (j : Fin 512) : Run.hidden x w v (ix2 b j)
      = unit (fun k => x (ix3 b (4095 : Fin 4096) k)) (fun k j => w (ix2 k j)) (fun j => v (ix1 j)) j := by
  unfold Run.hidden
  rw [addf_apply, bias_apply (by norm_num)]
  refine congrArg (· + v (ix1 j)) ((StackMember.dotGeneral_plain_apply (m := 4) (k := 1024) (n := 512) none _ w b j).trans ?_)
  exact Finset.sum_congr rfl fun k _ => congrArg (· * w (ix2 k j)) (last_apply x b k)

/-- The activation, entry by entry. -/
theorem active_apply (h : FVec Ideal S4x512 .f32) (i : S4x512.Idx) : active h i = act (h i) := by
  show Ideal.ofBits .f32 0x3F000000#32 * h i * Ideal.erfc (-(h i) * Ideal.ofBits .f32 0x3F3504F3#32) = _
  rw [EReal.neg_mul, Ideal.erfc_neg]
  rfl

/-- The scores: the formula of the two layers at the last token's row. -/
theorem scores_apply (x : FVec Ideal S4x4096x1024 .f32) (w : FVec Ideal S1024x512 .f32) (v : FVec Ideal S512 .f32)
    (u : FVec Ideal S512x119 .f32) (e : FVec Ideal S119 .f32) (b : Fin 4) (c : Fin 119) :
    scores (active (Run.hidden x w v)) u e (ix2 b c)
      = score (fun k => x (ix3 b (4095 : Fin 4096) k)) (fun k j => w (ix2 k j)) (fun j => v (ix1 j))
          (fun j c => u (ix2 j c)) (fun c => e (ix1 c)) c := by
  unfold scores
  rw [addf_apply, bias_apply (by norm_num)]
  refine congrArg (· + e (ix1 c)) ((StackMember.dotGeneral_plain_apply (m := 4) (k := 512) (n := 119) none _ u b c).trans ?_)
  refine Finset.sum_congr rfl fun j _ => ?_
  rw [active_apply, hidden_apply]

end Cert.ReferenceIdeal.Scores

end
-- ==== Proof.Equation.lean ====
/-
  The kernel's result is the reference's value of the same arguments, when the inputs of the scores are real.

  Both score the last token of each batch entry by the same formula, pick the first class of the greatest score, and lay
  that class's row of the table along every token: the kernel by the scores themselves, the reference by their softmax.
-/
module

public import proofs.«01_k».proof.Proof.KernelBlocks
public import proofs.«01_k».proof.Proof.ReferenceScores

@[expose] public section

noncomputable section

namespace Cert.Equation

open Cert.Reals Cert.Layer Cert.FirstMax
open Idealize.ShloMosaic Idealize.ShloMosaic.TcCoe Idealize.ShloMosaic.ValueIdx
open Cert.KernelIdeal Cert.KernelIdeal.Gen Cert.KernelIdeal.Blocks

variable (m : (ℓ : Loc nD τ sig) → Buf (Elt Ideal) ℓ) (c : Dev nD)

/-- The score of class `k` for batch entry `b`: the two layers at the last token's row. -/
def entryScore (b : Fin 4) (k : Fin 119) : EReal :=
  score (fun i => states m c (ix3 b (4095 : Fin 4096) i)) (fun i j => weights₁ m c (ix2 i j)) (fun j => bias₁ m c (ix1 j))
    (fun j k => weights₂ m c (ix2 j k)) (fun k => bias₂ m c (ix1 k)) k

/-- The kernel's entry `(b, s, d)` is entry `d` of the table's row of the first class of greatest score. -/
theorem kernel_apply {b : Fin 4} {k : Fin 119} (hk : IsFirst (entryScore m c b) k) (s : Fin 4096) (d : Fin 128) :
    KernelIdeal.Run.result m c (ix3 b s d) = table m c (ix2 k d) := by
  have hrow : KernelIdeal.Pick.row (addf
      (k0_pay1 (fun x => iblk m c 0 t0_0
        ((Rect.unit (s := S4x8x1024) ![0, 7, 0] S4x1x1024.size inb_S4x8x1024_S4x1x1024_0_7_0).toLoadRect.idx x))
        (iblk m c 2 t0_0) (iblk m c 3 t0_0) (iblk m c 4 t0_0) (iblk m c 5 t0_0) (iblk m c 6 t0_0) (iblk m c 7 t0_0))
      (k0_pay2 (iblk m c 8 t0_0))) b = entryScore m c b := by
    funext k
    refine (KernelIdeal.Scores.scores_apply (holds m c b) _ _ k).trans ?_
    have hu : (fun (j : Fin 512) (k : Fin 119) => iblk m c 7 t0_0 (ix2 j k)) = fun j k => weights₂ m c (ix2 j k) := by
      funext j k
      exact weights₂_block m c (ix2 j k)
    have he : (fun k : Fin 119 => iblk m c 8 t0_0 (ix2 (0 : Fin 1) k)) = fun k => bias₂ m c (ix1 k) := by
      funext k
      exact bias₂_block m c k
    unfold entryScore
    exact congrArg₂ (fun u e => score _ _ _ u e k) hu he
  rw [← hrow] at hk
  exact (KernelIdeal.Pick.stored_apply _ _ _ hk ⟨s.val % 256, Nat.mod_lt _ (by decide)⟩ d).trans (table_block m c (ix2 k d))

/-- The row, laid along the tokens: the row's entry. -/
theorem spreadRow_apply (l : FVec Ideal ReferenceIdeal.S4x128 .f32) (b : Fin 4) (s : Fin 4096) (d : Fin 128) :
    ReferenceIdeal.Run.spreadRow l (ix3 b s d) = l (ix2 b d) := by
  refine (broadcastInDim_apply _ _ _ (ix3 b s d) (ix3 b (0 : Fin 1) d) fun a => ?_).trans
    (broadcastInDim_apply _ _ l (ix3 b (0 : Fin 1) d) (ix2 b d) fun a => ?_)
  · match a with
    | ⟨0, _⟩ => rfl
    | ⟨1, _⟩ => rfl
    | ⟨2, _⟩ => rfl
  · match a with
    | ⟨0, _⟩ => rfl
    | ⟨1, _⟩ => rfl

/-- The reference's entry `(b, s, d)` is the same, the scores' inputs being real. -/
theorem reference_apply (hx : ∀ (b : Fin 4) (k : Fin 1024), IsReal (states m c (ix3 b (4095 : Fin 4096) k)))
    (hw : ∀ i, IsReal (weights₁ m c i)) (hv : ∀ i, IsReal (bias₁ m c i)) (hu : ∀ i, IsReal (weights₂ m c i))
    (he : ∀ i, IsReal (bias₂ m c i)) {b : Fin 4} {k : Fin 119} (hk : IsFirst (entryScore m c b) k) (s : Fin 4096)
    (d : Fin 128) :
    ReferenceIdeal.Run.value (states m c) (table m c) (weights₁ m c) (bias₁ m c) (weights₂ m c) (bias₂ m c) (ix3 b s d)
      = table m c (ix2 k d) := by
  have hrow : ReferenceIdeal.Pick.row (ReferenceIdeal.Run.scores (ReferenceIdeal.Run.active
      (ReferenceIdeal.Run.hidden (states m c) (weights₁ m c) (bias₁ m c))) (weights₂ m c) (bias₂ m c)) b
        = entryScore m c b := by
    funext k
    exact ReferenceIdeal.Scores.scores_apply _ _ _ _ _ b k
  have hreal : ∀ k, IsReal (entryScore m c b k) := fun k =>
    isReal_score (fun i => hx b i) (fun i j => hw (ix2 i j)) (fun j => hv (ix1 j)) (fun j k => hu (ix2 j k))
      (fun k => he (ix1 k)) k
  rw [← hrow] at hk hreal
  exact (spreadRow_apply _ b s d).trans (ReferenceIdeal.Pick.picked_apply _ _ hreal hk d)

/-- The kernel's result is the reference's value of the kernel's arguments, the scores' inputs being real. -/
theorem result_eq (hx : ∀ (b : Fin 4) (k : Fin 1024), IsReal (states m c (ix3 b (4095 : Fin 4096) k)))
    (hw : ∀ i, IsReal (weights₁ m c i)) (hv : ∀ i, IsReal (bias₁ m c i)) (hu : ∀ i, IsReal (weights₂ m c i))
    (he : ∀ i, IsReal (bias₂ m c i)) :
    KernelIdeal.Run.result m c
      = ReferenceIdeal.Run.value (states m c) (table m c) (weights₁ m c) (bias₁ m c) (weights₂ m c) (bias₂ m c) := by
  funext j
  obtain ⟨b, s, d, rfl⟩ : ∃ (b : Fin 4) (s : Fin 4096) (d : Fin 128), j = ix3 b s d :=
    ⟨j 0, j 1, j 2, by
      funext a
      match a with
      | ⟨0, _⟩ => rfl
      | ⟨1, _⟩ => rfl
      | ⟨2, _⟩ => rfl⟩
  obtain ⟨k, hk⟩ := exists_first (entryScore m c b)
  exact (kernel_apply m c hk s d).trans (reference_apply m c hx hw hv hu he hk s d).symm

end Cert.Equation

end
-- ==== Proof.lean ====
/-
  The certificate's claims, assembled: each program's run gives its frame; the two runs and the equation of what they
  compute give the value claim.
-/
module

public import proofs.«01_k».proof.Defs
public import proofs.«01_k».proof.Proof.KernelFrame
public import proofs.«01_k».proof.Proof.KernelIdealFrame
public import proofs.«01_k».proof.Proof.ReferenceRun
public import proofs.«01_k».proof.Proof.FinitePre
public import proofs.«01_k».proof.Proof.Equation

@[expose] public section

noncomputable section

namespace Cert.Proof

open Idealize.ShloMosaic Idealize.SL.Sem

/-- The kernel ends, its arguments unchanged and its semaphores at zero. -/
theorem frame_kernel : quiescent_Kernel (hKernel := Cert.Kernel.Gen.facts) := fun m g _ =>
  (θ_run Cert.Kernel.defs _ _).mono (fun _ h => ⟨fun c => (h.1 c).2, h.2⟩) (Cert.Kernel.Run.run m g)

/-- The kernel over the extended reals ends likewise. -/
theorem frame_kernelIdeal : quiescent_KernelIdeal (hKernelIdeal := Cert.KernelIdeal.Gen.facts) := fun m g _ =>
  (θ_run Cert.KernelIdeal.defs _ _).mono (fun _ h => ⟨fun c => (h.1 c).2, h.2⟩) (Cert.KernelIdeal.Run.run m g)

/-- The reference over the extended reals ends likewise. -/
theorem frame_referenceIdeal : quiescent_ReferenceIdeal (hReferenceIdeal := Cert.ReferenceIdeal.Gen.facts) := fun m g _ =>
  (θ_run Cert.ReferenceIdeal.defs _ _).mono (fun _ h => ⟨fun c => (h.1 c).2, h.2⟩) (Cert.ReferenceIdeal.Run.run m g)

/-- From memories that agree on the arguments, the inputs of the scores finite, kernel and reference end with the same
    result: the reference's value of the arguments. -/
theorem same_result : algebraic_KernelIdeal_ReferenceIdeal_pre_finite (hKernelIdeal := Cert.KernelIdeal.Gen.facts)
    (hReferenceIdeal := Cert.ReferenceIdeal.Gen.facts) (hPre_finite := Cert.Pre_finite.facts) := by
  intro m g m' g' hpre hargs
  refine ⟨fun c => Cert.KernelIdeal.Run.result m c,
    (θ_run Cert.KernelIdeal.defs _ _).mono (fun _ h => h.1) (Cert.KernelIdeal.Run.run m g),
    (θ_run Cert.ReferenceIdeal.defs _ _).mono (fun _ h c => ⟨(h.1 c).1.trans ?_, (h.1 c).2⟩)
      (Cert.ReferenceIdeal.Run.run m' g')⟩
  obtain ⟨e0, e1, e2, e3, e4, e5⟩ := hargs c
  obtain ⟨hx, hw, hv, hu, he⟩ := @Cert.Pre_finite.isReal_of_fn Cert.Pre_finite.facts _ _ _ _ _ _ (hpre c)
  rw [e0, e1, e2, e3, e4, e5]
  exact (Cert.Equation.result_eq m c hx hw hv hu he).symm

/-- All the claims. -/
theorem claim : Cert.Claim :=
  ⟨Cert.Kernel.Gen.facts, Cert.KernelIdeal.Gen.facts, Cert.ReferenceIdeal.Gen.facts, Cert.Pre_finite.facts,
    frame_kernel, frame_kernelIdeal, fun m g _ => frame_kernelIdeal m g trivial, frame_referenceIdeal,
    fun m g _ => frame_referenceIdeal m g trivial, trivial, same_result⟩

end Cert.Proof

end
